-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x1024 : Shape := ⟨2, ![2, 1024]⟩
abbrev S2x256x1024 : Shape := ⟨3, ![2, 256, 1024]⟩
abbrev S32x2x1024 : Shape := ⟨3, ![32, 2, 1024]⟩
abbrev S2 : Shape := ⟨1, ![2]⟩
abbrev S31 : Shape := ⟨1, ![31]⟩
abbrev S32 : Shape := ⟨1, ![32]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1024 : Shape := ⟨1, ![1024]⟩
abbrev S1x1024 : Shape := ⟨2, ![1, 1024]⟩
abbrev S1x2x1024 : Shape := ⟨3, ![1, 2, 1024]⟩
abbrev S32x1x1024 : Shape := ⟨3, ![32, 1, 1024]⟩
abbrev S32x1024 : Shape := ⟨2, ![32, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x256x1024, .f32⟩
  | .local _ .vmem, ⟨3, _⟩ => ⟨S32x2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v9 : BitVec 32 := Scalar.addi v2 c1_i32_5
  let c0_i32_6 : BitVec 32 := 0#32
  let v10 : BitVec 32 := Scalar.addi v9 c0_i32_6
  let c32_i32_7 : BitVec 32 := 32#32
  let c0_i32_8 : BitVec 32 := 0#32
  let v11 : BitVec 1 := Scalar.cmpi .eq c32_i32_7 c0_i32_8
  let c1_i32_9 : BitVec 32 := 1#32
  let v12 : BitVec 32 := Scalar.select v11 c1_i32_9 c32_i32_7
  let v13 : BitVec 32 := Scalar.remsi v10 v12
  let c0_i32_11 : BitVec 32 := 0#32
  let v15 : BitVec 1 := Scalar.cmpi .slt v13 c0_i32_11
  let c0_i32_12 : BitVec 32 := 0#32
  let v16 : BitVec 1 := Scalar.cmpi .slt v12 c0_i32_12
  let v17 : BitVec 1 := Scalar.xori v15 v16
  let c0_i32_10 : BitVec 32 := 0#32
  let v14 : BitVec 1 := Scalar.cmpi .ne v13 c0_i32_10
  let v18 : BitVec 1 := Scalar.andi v17 v14
  let v19 : BitVec 32 := Scalar.addi v13 v12
  let v20 : BitVec 32 := Scalar.select v18 v19 v13
  let c1_i32_14 : BitVec 32 := 1#32
  let v21 : BitVec 32 := Scalar.muli v20 c1_i32_14
  let v22 : BitVec 32 := Scalar.addi c0_i32_15 v21
  v22.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v23 : BitVec 32 := Scalar.addi v2 c1_i32_16
  let c1_i32_17 : BitVec 32 := 1#32
  let v24 : BitVec 32 := Scalar.addi v23 c1_i32_17
  let c32_i32_18 : BitVec 32 := 32#32
  let c0_i32_19 : BitVec 32 := 0#32
  let v25 : BitVec 1 := Scalar.cmpi .eq c32_i32_18 c0_i32_19
  let c1_i32_20 : BitVec 32 := 1#32
  let v26 : BitVec 32 := Scalar.select v25 c1_i32_20 c32_i32_18
  let v27 : BitVec 32 := Scalar.remsi v24 v26
  let c0_i32_22 : BitVec 32 := 0#32
  let v29 : BitVec 1 := Scalar.cmpi .slt v27 c0_i32_22
  let c0_i32_23 : BitVec 32 := 0#32
  let v30 : BitVec 1 := Scalar.cmpi .slt v26 c0_i32_23
  let v31 : BitVec 1 := Scalar.xori v29 v30
  let c0_i32_21 : BitVec 32 := 0#32
  let v28 : BitVec 1 := Scalar.cmpi .ne v27 c0_i32_21
  let v32 : BitVec 1 := Scalar.andi v31 v28
  let v33 : BitVec 32 := Scalar.addi v27 v26
  let v34 : BitVec 32 := Scalar.select v32 v33 v27
  let c1_i32_25 : BitVec 32 := 1#32
  let v35 : BitVec 32 := Scalar.muli v34 c1_i32_25
  let v36 : BitVec 32 := Scalar.addi c0_i32_26 v35
  v36.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v37 : BitVec 32 := Scalar.addi v2 c1_i32_27
  let c2_i32 : BitVec 32 := 2#32
  let v38 : BitVec 32 := Scalar.addi v37 c2_i32
  let c32_i32_28 : BitVec 32 := 32#32
  let c0_i32_29 : BitVec 32 := 0#32
  let v39 : BitVec 1 := Scalar.cmpi .eq c32_i32_28 c0_i32_29
  let c1_i32_30 : BitVec 32 := 1#32
  let v40 : BitVec 32 := Scalar.select v39 c1_i32_30 c32_i32_28
  let v41 : BitVec 32 := Scalar.remsi v38 v40
  let c0_i32_32 : BitVec 32 := 0#32
  let v43 : BitVec 1 := Scalar.cmpi .slt v41 c0_i32_32
  let c0_i32_33 : BitVec 32 := 0#32
  let v44 : BitVec 1 := Scalar.cmpi .slt v40 c0_i32_33
  let v45 : BitVec 1 := Scalar.xori v43 v44
  let c0_i32_31 : BitVec 32 := 0#32
  let v42 : BitVec 1 := Scalar.cmpi .ne v41 c0_i32_31
  let v46 : BitVec 1 := Scalar.andi v45 v42
  let v47 : BitVec 32 := Scalar.addi v41 v40
  let v48 : BitVec 32 := Scalar.select v46 v47 v41
  let c1_i32_35 : BitVec 32 := 1#32
  let v49 : BitVec 32 := Scalar.muli v48 c1_i32_35
  let v50 : BitVec 32 := Scalar.addi c0_i32_36 v49
  v50.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_37 : BitVec 32 := 1#32
  let v51 : BitVec 32 := Scalar.addi v2 c1_i32_37
  let c3_i32 : BitVec 32 := 3#32
  let v52 : BitVec 32 := Scalar.addi v51 c3_i32
  let c32_i32_38 : BitVec 32 := 32#32
  let c0_i32_39 : BitVec 32 := 0#32
  let v53 : BitVec 1 := Scalar.cmpi .eq c32_i32_38 c0_i32_39
  let c1_i32_40 : BitVec 32 := 1#32
  let v54 : BitVec 32 := Scalar.select v53 c1_i32_40 c32_i32_38
  let v55 : BitVec 32 := Scalar.remsi v52 v54
  let c0_i32_42 : BitVec 32 := 0#32
  let v57 : BitVec 1 := Scalar.cmpi .slt v55 c0_i32_42
  let c0_i32_43 : BitVec 32 := 0#32
  let v58 : BitVec 1 := Scalar.cmpi .slt v54 c0_i32_43
  let v59 : BitVec 1 := Scalar.xori v57 v58
  let c0_i32_41 : BitVec 32 := 0#32
  let v56 : BitVec 1 := Scalar.cmpi .ne v55 c0_i32_41
  let v60 : BitVec 1 := Scalar.andi v59 v56
  let v61 : BitVec 32 := Scalar.addi v55 v54
  let v62 : BitVec 32 := Scalar.select v60 v61 v55
  let c1_i32_45 : BitVec 32 := 1#32
  let v63 : BitVec 32 := Scalar.muli v62 c1_i32_45
  let v64 : BitVec 32 := Scalar.addi c0_i32_46 v63
  v64.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_47 : BitVec 32 := 1#32
  let v65 : BitVec 32 := Scalar.addi v2 c1_i32_47
  let c4_i32 : BitVec 32 := 4#32
  let v66 : BitVec 32 := Scalar.addi v65 c4_i32
  let c32_i32_48 : BitVec 32 := 32#32
  let c0_i32_49 : BitVec 32 := 0#32
  let v67 : BitVec 1 := Scalar.cmpi .eq c32_i32_48 c0_i32_49
  let c1_i32_50 : BitVec 32 := 1#32
  let v68 : BitVec 32 := Scalar.select v67 c1_i32_50 c32_i32_48
  let v69 : BitVec 32 := Scalar.remsi v66 v68
  let c0_i32_52 : BitVec 32 := 0#32
  let v71 : BitVec 1 := Scalar.cmpi .slt v69 c0_i32_52
  let c0_i32_53 : BitVec 32 := 0#32
  let v72 : BitVec 1 := Scalar.cmpi .slt v68 c0_i32_53
  let v73 : BitVec 1 := Scalar.xori v71 v72
  let c0_i32_51 : BitVec 32 := 0#32
  let v70 : BitVec 1 := Scalar.cmpi .ne v69 c0_i32_51
  let v74 : BitVec 1 := Scalar.andi v73 v70
  let v75 : BitVec 32 := Scalar.addi v69 v68
  let v76 : BitVec 32 := Scalar.select v74 v75 v69
  let c1_i32_55 : BitVec 32 := 1#32
  let v77 : BitVec 32 := Scalar.muli v76 c1_i32_55
  let v78 : BitVec 32 := Scalar.addi c0_i32_56 v77
  v78.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_57 : BitVec 32 := 1#32
  let v79 : BitVec 32 := Scalar.addi v2 c1_i32_57
  let c5_i32 : BitVec 32 := 5#32
  let v80 : BitVec 32 := Scalar.addi v79 c5_i32
  let c32_i32_58 : BitVec 32 := 32#32
  let c0_i32_59 : BitVec 32 := 0#32
  let v81 : BitVec 1 := Scalar.cmpi .eq c32_i32_58 c0_i32_59
  let c1_i32_60 : BitVec 32 := 1#32
  let v82 : BitVec 32 := Scalar.select v81 c1_i32_60 c32_i32_58
  let v83 : BitVec 32 := Scalar.remsi v80 v82
  let c0_i32_62 : BitVec 32 := 0#32
  let v85 : BitVec 1 := Scalar.cmpi .slt v83 c0_i32_62
  let c0_i32_63 : BitVec 32 := 0#32
  let v86 : BitVec 1 := Scalar.cmpi .slt v82 c0_i32_63
  let v87 : BitVec 1 := Scalar.xori v85 v86
  let c0_i32_61 : BitVec 32 := 0#32
  let v84 : BitVec 1 := Scalar.cmpi .ne v83 c0_i32_61
  let v88 : BitVec 1 := Scalar.andi v87 v84
  let v89 : BitVec 32 := Scalar.addi v83 v82
  let v90 : BitVec 32 := Scalar.select v88 v89 v83
  let c1_i32_65 : BitVec 32 := 1#32
  let v91 : BitVec 32 := Scalar.muli v90 c1_i32_65
  let v92 : BitVec 32 := Scalar.addi c0_i32_66 v91
  v92.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_67 : BitVec 32 := 1#32
  let v93 : BitVec 32 := Scalar.addi v2 c1_i32_67
  let c6_i32 : BitVec 32 := 6#32
  let v94 : BitVec 32 := Scalar.addi v93 c6_i32
  let c32_i32_68 : BitVec 32 := 32#32
  let c0_i32_69 : BitVec 32 := 0#32
  let v95 : BitVec 1 := Scalar.cmpi .eq c32_i32_68 c0_i32_69
  let c1_i32_70 : BitVec 32 := 1#32
  let v96 : BitVec 32 := Scalar.select v95 c1_i32_70 c32_i32_68
  let v97 : BitVec 32 := Scalar.remsi v94 v96
  let c0_i32_72 : BitVec 32 := 0#32
  let v99 : BitVec 1 := Scalar.cmpi .slt v97 c0_i32_72
  let c0_i32_73 : BitVec 32 := 0#32
  let v100 : BitVec 1 := Scalar.cmpi .slt v96 c0_i32_73
  let v101 : BitVec 1 := Scalar.xori v99 v100
  let c0_i32_71 : BitVec 32 := 0#32
  let v98 : BitVec 1 := Scalar.cmpi .ne v97 c0_i32_71
  let v102 : BitVec 1 := Scalar.andi v101 v98
  let v103 : BitVec 32 := Scalar.addi v97 v96
  let v104 : BitVec 32 := Scalar.select v102 v103 v97
  let c1_i32_75 : BitVec 32 := 1#32
  let v105 : BitVec 32 := Scalar.muli v104 c1_i32_75
  let v106 : BitVec 32 := Scalar.addi c0_i32_76 v105
  v106.toNat
def k0_dev8 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_77 : BitVec 32 := 1#32
  let v107 : BitVec 32 := Scalar.addi v2 c1_i32_77
  let c7_i32 : BitVec 32 := 7#32
  let v108 : BitVec 32 := Scalar.addi v107 c7_i32
  let c32_i32_78 : BitVec 32 := 32#32
  let c0_i32_79 : BitVec 32 := 0#32
  let v109 : BitVec 1 := Scalar.cmpi .eq c32_i32_78 c0_i32_79
  let c1_i32_80 : BitVec 32 := 1#32
  let v110 : BitVec 32 := Scalar.select v109 c1_i32_80 c32_i32_78
  let v111 : BitVec 32 := Scalar.remsi v108 v110
  let c0_i32_82 : BitVec 32 := 0#32
  let v113 : BitVec 1 := Scalar.cmpi .slt v111 c0_i32_82
  let c0_i32_83 : BitVec 32 := 0#32
  let v114 : BitVec 1 := Scalar.cmpi .slt v110 c0_i32_83
  let v115 : BitVec 1 := Scalar.xori v113 v114
  let c0_i32_81 : BitVec 32 := 0#32
  let v112 : BitVec 1 := Scalar.cmpi .ne v111 c0_i32_81
  let v116 : BitVec 1 := Scalar.andi v115 v112
  let v117 : BitVec 32 := Scalar.addi v111 v110
  let v118 : BitVec 32 := Scalar.select v116 v117 v111
  let c1_i32_85 : BitVec 32 := 1#32
  let v119 : BitVec 32 := Scalar.muli v118 c1_i32_85
  let v120 : BitVec 32 := Scalar.addi c0_i32_86 v119
  v120.toNat
def k0_dev9 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_87 : BitVec 32 := 1#32
  let v121 : BitVec 32 := Scalar.addi v2 c1_i32_87
  let c8_i32 : BitVec 32 := 8#32
  let v122 : BitVec 32 := Scalar.addi v121 c8_i32
  let c32_i32_88 : BitVec 32 := 32#32
  let c0_i32_89 : BitVec 32 := 0#32
  let v123 : BitVec 1 := Scalar.cmpi .eq c32_i32_88 c0_i32_89
  let c1_i32_90 : BitVec 32 := 1#32
  let v124 : BitVec 32 := Scalar.select v123 c1_i32_90 c32_i32_88
  let v125 : BitVec 32 := Scalar.remsi v122 v124
  let c0_i32_92 : BitVec 32 := 0#32
  let v127 : BitVec 1 := Scalar.cmpi .slt v125 c0_i32_92
  let c0_i32_93 : BitVec 32 := 0#32
  let v128 : BitVec 1 := Scalar.cmpi .slt v124 c0_i32_93
  let v129 : BitVec 1 := Scalar.xori v127 v128
  let c0_i32_91 : BitVec 32 := 0#32
  let v126 : BitVec 1 := Scalar.cmpi .ne v125 c0_i32_91
  let v130 : BitVec 1 := Scalar.andi v129 v126
  let v131 : BitVec 32 := Scalar.addi v125 v124
  let v132 : BitVec 32 := Scalar.select v130 v131 v125
  let c1_i32_95 : BitVec 32 := 1#32
  let v133 : BitVec 32 := Scalar.muli v132 c1_i32_95
  let v134 : BitVec 32 := Scalar.addi c0_i32_96 v133
  v134.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_97 : BitVec 32 := 1#32
  let v135 : BitVec 32 := Scalar.addi v2 c1_i32_97
  let c9_i32 : BitVec 32 := 9#32
  let v136 : BitVec 32 := Scalar.addi v135 c9_i32
  let c32_i32_98 : BitVec 32 := 32#32
  let c0_i32_99 : BitVec 32 := 0#32
  let v137 : BitVec 1 := Scalar.cmpi .eq c32_i32_98 c0_i32_99
  let c1_i32_100 : BitVec 32 := 1#32
  let v138 : BitVec 32 := Scalar.select v137 c1_i32_100 c32_i32_98
  let v139 : BitVec 32 := Scalar.remsi v136 v138
  let c0_i32_102 : BitVec 32 := 0#32
  let v141 : BitVec 1 := Scalar.cmpi .slt v139 c0_i32_102
  let c0_i32_103 : BitVec 32 := 0#32
  let v142 : BitVec 1 := Scalar.cmpi .slt v138 c0_i32_103
  let v143 : BitVec 1 := Scalar.xori v141 v142
  let c0_i32_101 : BitVec 32 := 0#32
  let v140 : BitVec 1 := Scalar.cmpi .ne v139 c0_i32_101
  let v144 : BitVec 1 := Scalar.andi v143 v140
  let v145 : BitVec 32 := Scalar.addi v139 v138
  let v146 : BitVec 32 := Scalar.select v144 v145 v139
  let c1_i32_105 : BitVec 32 := 1#32
  let v147 : BitVec 32 := Scalar.muli v146 c1_i32_105
  let v148 : BitVec 32 := Scalar.addi c0_i32_106 v147
  v148.toNat
def k0_dev11 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_107 : BitVec 32 := 1#32
  let v149 : BitVec 32 := Scalar.addi v2 c1_i32_107
  let c10_i32 : BitVec 32 := 10#32
  let v150 : BitVec 32 := Scalar.addi v149 c10_i32
  let c32_i32_108 : BitVec 32 := 32#32
  let c0_i32_109 : BitVec 32 := 0#32
  let v151 : BitVec 1 := Scalar.cmpi .eq c32_i32_108 c0_i32_109
  let c1_i32_110 : BitVec 32 := 1#32
  let v152 : BitVec 32 := Scalar.select v151 c1_i32_110 c32_i32_108
  let v153 : BitVec 32 := Scalar.remsi v150 v152
  let c0_i32_112 : BitVec 32 := 0#32
  let v155 : BitVec 1 := Scalar.cmpi .slt v153 c0_i32_112
  let c0_i32_113 : BitVec 32 := 0#32
  let v156 : BitVec 1 := Scalar.cmpi .slt v152 c0_i32_113
  let v157 : BitVec 1 := Scalar.xori v155 v156
  let c0_i32_111 : BitVec 32 := 0#32
  let v154 : BitVec 1 := Scalar.cmpi .ne v153 c0_i32_111
  let v158 : BitVec 1 := Scalar.andi v157 v154
  let v159 : BitVec 32 := Scalar.addi v153 v152
  let v160 : BitVec 32 := Scalar.select v158 v159 v153
  let c1_i32_115 : BitVec 32 := 1#32
  let v161 : BitVec 32 := Scalar.muli v160 c1_i32_115
  let v162 : BitVec 32 := Scalar.addi c0_i32_116 v161
  v162.toNat
def k0_dev12 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_117 : BitVec 32 := 1#32
  let v163 : BitVec 32 := Scalar.addi v2 c1_i32_117
  let c11_i32 : BitVec 32 := 11#32
  let v164 : BitVec 32 := Scalar.addi v163 c11_i32
  let c32_i32_118 : BitVec 32 := 32#32
  let c0_i32_119 : BitVec 32 := 0#32
  let v165 : BitVec 1 := Scalar.cmpi .eq c32_i32_118 c0_i32_119
  let c1_i32_120 : BitVec 32 := 1#32
  let v166 : BitVec 32 := Scalar.select v165 c1_i32_120 c32_i32_118
  let v167 : BitVec 32 := Scalar.remsi v164 v166
  let c0_i32_122 : BitVec 32 := 0#32
  let v169 : BitVec 1 := Scalar.cmpi .slt v167 c0_i32_122
  let c0_i32_123 : BitVec 32 := 0#32
  let v170 : BitVec 1 := Scalar.cmpi .slt v166 c0_i32_123
  let v171 : BitVec 1 := Scalar.xori v169 v170
  let c0_i32_121 : BitVec 32 := 0#32
  let v168 : BitVec 1 := Scalar.cmpi .ne v167 c0_i32_121
  let v172 : BitVec 1 := Scalar.andi v171 v168
  let v173 : BitVec 32 := Scalar.addi v167 v166
  let v174 : BitVec 32 := Scalar.select v172 v173 v167
  let c1_i32_125 : BitVec 32 := 1#32
  let v175 : BitVec 32 := Scalar.muli v174 c1_i32_125
  let v176 : BitVec 32 := Scalar.addi c0_i32_126 v175
  v176.toNat
def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v177 : BitVec 32 := Scalar.addi v2 c1_i32_127
  let c12_i32 : BitVec 32 := 12#32
  let v178 : BitVec 32 := Scalar.addi v177 c12_i32
  let c32_i32_128 : BitVec 32 := 32#32
  let c0_i32_129 : BitVec 32 := 0#32
  let v179 : BitVec 1 := Scalar.cmpi .eq c32_i32_128 c0_i32_129
  let c1_i32_130 : BitVec 32 := 1#32
  let v180 : BitVec 32 := Scalar.select v179 c1_i32_130 c32_i32_128
  let v181 : BitVec 32 := Scalar.remsi v178 v180
  let c0_i32_132 : BitVec 32 := 0#32
  let v183 : BitVec 1 := Scalar.cmpi .slt v181 c0_i32_132
  let c0_i32_133 : BitVec 32 := 0#32
  let v184 : BitVec 1 := Scalar.cmpi .slt v180 c0_i32_133
  let v185 : BitVec 1 := Scalar.xori v183 v184
  let c0_i32_131 : BitVec 32 := 0#32
  let v182 : BitVec 1 := Scalar.cmpi .ne v181 c0_i32_131
  let v186 : BitVec 1 := Scalar.andi v185 v182
  let v187 : BitVec 32 := Scalar.addi v181 v180
  let v188 : BitVec 32 := Scalar.select v186 v187 v181
  let c1_i32_135 : BitVec 32 := 1#32
  let v189 : BitVec 32 := Scalar.muli v188 c1_i32_135
  let v190 : BitVec 32 := Scalar.addi c0_i32_136 v189
  v190.toNat
def k0_dev14 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_137 : BitVec 32 := 1#32
  let v191 : BitVec 32 := Scalar.addi v2 c1_i32_137
  let c13_i32 : BitVec 32 := 13#32
  let v192 : BitVec 32 := Scalar.addi v191 c13_i32
  let c32_i32_138 : BitVec 32 := 32#32
  let c0_i32_139 : BitVec 32 := 0#32
  let v193 : BitVec 1 := Scalar.cmpi .eq c32_i32_138 c0_i32_139
  let c1_i32_140 : BitVec 32 := 1#32
  let v194 : BitVec 32 := Scalar.select v193 c1_i32_140 c32_i32_138
  let v195 : BitVec 32 := Scalar.remsi v192 v194
  let c0_i32_142 : BitVec 32 := 0#32
  let v197 : BitVec 1 := Scalar.cmpi .slt v195 c0_i32_142
  let c0_i32_143 : BitVec 32 := 0#32
  let v198 : BitVec 1 := Scalar.cmpi .slt v194 c0_i32_143
  let v199 : BitVec 1 := Scalar.xori v197 v198
  let c0_i32_141 : BitVec 32 := 0#32
  let v196 : BitVec 1 := Scalar.cmpi .ne v195 c0_i32_141
  let v200 : BitVec 1 := Scalar.andi v199 v196
  let v201 : BitVec 32 := Scalar.addi v195 v194
  let v202 : BitVec 32 := Scalar.select v200 v201 v195
  let c1_i32_145 : BitVec 32 := 1#32
  let v203 : BitVec 32 := Scalar.muli v202 c1_i32_145
  let v204 : BitVec 32 := Scalar.addi c0_i32_146 v203
  v204.toNat
def k0_dev15 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_147 : BitVec 32 := 1#32
  let v205 : BitVec 32 := Scalar.addi v2 c1_i32_147
  let c14_i32 : BitVec 32 := 14#32
  let v206 : BitVec 32 := Scalar.addi v205 c14_i32
  let c32_i32_148 : BitVec 32 := 32#32
  let c0_i32_149 : BitVec 32 := 0#32
  let v207 : BitVec 1 := Scalar.cmpi .eq c32_i32_148 c0_i32_149
  let c1_i32_150 : BitVec 32 := 1#32
  let v208 : BitVec 32 := Scalar.select v207 c1_i32_150 c32_i32_148
  let v209 : BitVec 32 := Scalar.remsi v206 v208
  let c0_i32_152 : BitVec 32 := 0#32
  let v211 : BitVec 1 := Scalar.cmpi .slt v209 c0_i32_152
  let c0_i32_153 : BitVec 32 := 0#32
  let v212 : BitVec 1 := Scalar.cmpi .slt v208 c0_i32_153
  let v213 : BitVec 1 := Scalar.xori v211 v212
  let c0_i32_151 : BitVec 32 := 0#32
  let v210 : BitVec 1 := Scalar.cmpi .ne v209 c0_i32_151
  let v214 : BitVec 1 := Scalar.andi v213 v210
  let v215 : BitVec 32 := Scalar.addi v209 v208
  let v216 : BitVec 32 := Scalar.select v214 v215 v209
  let c1_i32_155 : BitVec 32 := 1#32
  let v217 : BitVec 32 := Scalar.muli v216 c1_i32_155
  let v218 : BitVec 32 := Scalar.addi c0_i32_156 v217
  v218.toNat
def k0_dev16 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_157 : BitVec 32 := 1#32
  let v219 : BitVec 32 := Scalar.addi v2 c1_i32_157
  let c15_i32 : BitVec 32 := 15#32
  let v220 : BitVec 32 := Scalar.addi v219 c15_i32
  let c32_i32_158 : BitVec 32 := 32#32
  let c0_i32_159 : BitVec 32 := 0#32
  let v221 : BitVec 1 := Scalar.cmpi .eq c32_i32_158 c0_i32_159
  let c1_i32_160 : BitVec 32 := 1#32
  let v222 : BitVec 32 := Scalar.select v221 c1_i32_160 c32_i32_158
  let v223 : BitVec 32 := Scalar.remsi v220 v222
  let c0_i32_162 : BitVec 32 := 0#32
  let v225 : BitVec 1 := Scalar.cmpi .slt v223 c0_i32_162
  let c0_i32_163 : BitVec 32 := 0#32
  let v226 : BitVec 1 := Scalar.cmpi .slt v222 c0_i32_163
  let v227 : BitVec 1 := Scalar.xori v225 v226
  let c0_i32_161 : BitVec 32 := 0#32
  let v224 : BitVec 1 := Scalar.cmpi .ne v223 c0_i32_161
  let v228 : BitVec 1 := Scalar.andi v227 v224
  let v229 : BitVec 32 := Scalar.addi v223 v222
  let v230 : BitVec 32 := Scalar.select v228 v229 v223
  let c1_i32_165 : BitVec 32 := 1#32
  let v231 : BitVec 32 := Scalar.muli v230 c1_i32_165
  let v232 : BitVec 32 := Scalar.addi c0_i32_166 v231
  v232.toNat
def k0_dev17 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_167 : BitVec 32 := 1#32
  let v233 : BitVec 32 := Scalar.addi v2 c1_i32_167
  let c16_i32 : BitVec 32 := 16#32
  let v234 : BitVec 32 := Scalar.addi v233 c16_i32
  let c32_i32_168 : BitVec 32 := 32#32
  let c0_i32_169 : BitVec 32 := 0#32
  let v235 : BitVec 1 := Scalar.cmpi .eq c32_i32_168 c0_i32_169
  let c1_i32_170 : BitVec 32 := 1#32
  let v236 : BitVec 32 := Scalar.select v235 c1_i32_170 c32_i32_168
  let v237 : BitVec 32 := Scalar.remsi v234 v236
  let c0_i32_172 : BitVec 32 := 0#32
  let v239 : BitVec 1 := Scalar.cmpi .slt v237 c0_i32_172
  let c0_i32_173 : BitVec 32 := 0#32
  let v240 : BitVec 1 := Scalar.cmpi .slt v236 c0_i32_173
  let v241 : BitVec 1 := Scalar.xori v239 v240
  let c0_i32_171 : BitVec 32 := 0#32
  let v238 : BitVec 1 := Scalar.cmpi .ne v237 c0_i32_171
  let v242 : BitVec 1 := Scalar.andi v241 v238
  let v243 : BitVec 32 := Scalar.addi v237 v236
  let v244 : BitVec 32 := Scalar.select v242 v243 v237
  let c1_i32_175 : BitVec 32 := 1#32
  let v245 : BitVec 32 := Scalar.muli v244 c1_i32_175
  let v246 : BitVec 32 := Scalar.addi c0_i32_176 v245
  v246.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_177 : BitVec 32 := 1#32
  let v247 : BitVec 32 := Scalar.addi v2 c1_i32_177
  let c17_i32 : BitVec 32 := 17#32
  let v248 : BitVec 32 := Scalar.addi v247 c17_i32
  let c32_i32_178 : BitVec 32 := 32#32
  let c0_i32_179 : BitVec 32 := 0#32
  let v249 : BitVec 1 := Scalar.cmpi .eq c32_i32_178 c0_i32_179
  let c1_i32_180 : BitVec 32 := 1#32
  let v250 : BitVec 32 := Scalar.select v249 c1_i32_180 c32_i32_178
  let v251 : BitVec 32 := Scalar.remsi v248 v250
  let c0_i32_182 : BitVec 32 := 0#32
  let v253 : BitVec 1 := Scalar.cmpi .slt v251 c0_i32_182
  let c0_i32_183 : BitVec 32 := 0#32
  let v254 : BitVec 1 := Scalar.cmpi .slt v250 c0_i32_183
  let v255 : BitVec 1 := Scalar.xori v253 v254
  let c0_i32_181 : BitVec 32 := 0#32
  let v252 : BitVec 1 := Scalar.cmpi .ne v251 c0_i32_181
  let v256 : BitVec 1 := Scalar.andi v255 v252
  let v257 : BitVec 32 := Scalar.addi v251 v250
  let v258 : BitVec 32 := Scalar.select v256 v257 v251
  let c1_i32_185 : BitVec 32 := 1#32
  let v259 : BitVec 32 := Scalar.muli v258 c1_i32_185
  let v260 : BitVec 32 := Scalar.addi c0_i32_186 v259
  v260.toNat
def k0_dev19 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_187 : BitVec 32 := 1#32
  let v261 : BitVec 32 := Scalar.addi v2 c1_i32_187
  let c18_i32 : BitVec 32 := 18#32
  let v262 : BitVec 32 := Scalar.addi v261 c18_i32
  let c32_i32_188 : BitVec 32 := 32#32
  let c0_i32_189 : BitVec 32 := 0#32
  let v263 : BitVec 1 := Scalar.cmpi .eq c32_i32_188 c0_i32_189
  let c1_i32_190 : BitVec 32 := 1#32
  let v264 : BitVec 32 := Scalar.select v263 c1_i32_190 c32_i32_188
  let v265 : BitVec 32 := Scalar.remsi v262 v264
  let c0_i32_192 : BitVec 32 := 0#32
  let v267 : BitVec 1 := Scalar.cmpi .slt v265 c0_i32_192
  let c0_i32_193 : BitVec 32 := 0#32
  let v268 : BitVec 1 := Scalar.cmpi .slt v264 c0_i32_193
  let v269 : BitVec 1 := Scalar.xori v267 v268
  let c0_i32_191 : BitVec 32 := 0#32
  let v266 : BitVec 1 := Scalar.cmpi .ne v265 c0_i32_191
  let v270 : BitVec 1 := Scalar.andi v269 v266
  let v271 : BitVec 32 := Scalar.addi v265 v264
  let v272 : BitVec 32 := Scalar.select v270 v271 v265
  let c1_i32_195 : BitVec 32 := 1#32
  let v273 : BitVec 32 := Scalar.muli v272 c1_i32_195
  let v274 : BitVec 32 := Scalar.addi c0_i32_196 v273
  v274.toNat
def k0_dev20 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_197 : BitVec 32 := 1#32
  let v275 : BitVec 32 := Scalar.addi v2 c1_i32_197
  let c19_i32 : BitVec 32 := 19#32
  let v276 : BitVec 32 := Scalar.addi v275 c19_i32
  let c32_i32_198 : BitVec 32 := 32#32
  let c0_i32_199 : BitVec 32 := 0#32
  let v277 : BitVec 1 := Scalar.cmpi .eq c32_i32_198 c0_i32_199
  let c1_i32_200 : BitVec 32 := 1#32
  let v278 : BitVec 32 := Scalar.select v277 c1_i32_200 c32_i32_198
  let v279 : BitVec 32 := Scalar.remsi v276 v278
  let c0_i32_202 : BitVec 32 := 0#32
  let v281 : BitVec 1 := Scalar.cmpi .slt v279 c0_i32_202
  let c0_i32_203 : BitVec 32 := 0#32
  let v282 : BitVec 1 := Scalar.cmpi .slt v278 c0_i32_203
  let v283 : BitVec 1 := Scalar.xori v281 v282
  let c0_i32_201 : BitVec 32 := 0#32
  let v280 : BitVec 1 := Scalar.cmpi .ne v279 c0_i32_201
  let v284 : BitVec 1 := Scalar.andi v283 v280
  let v285 : BitVec 32 := Scalar.addi v279 v278
  let v286 : BitVec 32 := Scalar.select v284 v285 v279
  let c1_i32_205 : BitVec 32 := 1#32
  let v287 : BitVec 32 := Scalar.muli v286 c1_i32_205
  let v288 : BitVec 32 := Scalar.addi c0_i32_206 v287
  v288.toNat
def k0_dev21 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_207 : BitVec 32 := 1#32
  let v289 : BitVec 32 := Scalar.addi v2 c1_i32_207
  let c20_i32 : BitVec 32 := 20#32
  let v290 : BitVec 32 := Scalar.addi v289 c20_i32
  let c32_i32_208 : BitVec 32 := 32#32
  let c0_i32_209 : BitVec 32 := 0#32
  let v291 : BitVec 1 := Scalar.cmpi .eq c32_i32_208 c0_i32_209
  let c1_i32_210 : BitVec 32 := 1#32
  let v292 : BitVec 32 := Scalar.select v291 c1_i32_210 c32_i32_208
  let v293 : BitVec 32 := Scalar.remsi v290 v292
  let c0_i32_212 : BitVec 32 := 0#32
  let v295 : BitVec 1 := Scalar.cmpi .slt v293 c0_i32_212
  let c0_i32_213 : BitVec 32 := 0#32
  let v296 : BitVec 1 := Scalar.cmpi .slt v292 c0_i32_213
  let v297 : BitVec 1 := Scalar.xori v295 v296
  let c0_i32_211 : BitVec 32 := 0#32
  let v294 : BitVec 1 := Scalar.cmpi .ne v293 c0_i32_211
  let v298 : BitVec 1 := Scalar.andi v297 v294
  let v299 : BitVec 32 := Scalar.addi v293 v292
  let v300 : BitVec 32 := Scalar.select v298 v299 v293
  let c1_i32_215 : BitVec 32 := 1#32
  let v301 : BitVec 32 := Scalar.muli v300 c1_i32_215
  let v302 : BitVec 32 := Scalar.addi c0_i32_216 v301
  v302.toNat
def k0_dev22 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_217 : BitVec 32 := 1#32
  let v303 : BitVec 32 := Scalar.addi v2 c1_i32_217
  let c21_i32 : BitVec 32 := 21#32
  let v304 : BitVec 32 := Scalar.addi v303 c21_i32
  let c32_i32_218 : BitVec 32 := 32#32
  let c0_i32_219 : BitVec 32 := 0#32
  let v305 : BitVec 1 := Scalar.cmpi .eq c32_i32_218 c0_i32_219
  let c1_i32_220 : BitVec 32 := 1#32
  let v306 : BitVec 32 := Scalar.select v305 c1_i32_220 c32_i32_218
  let v307 : BitVec 32 := Scalar.remsi v304 v306
  let c0_i32_222 : BitVec 32 := 0#32
  let v309 : BitVec 1 := Scalar.cmpi .slt v307 c0_i32_222
  let c0_i32_223 : BitVec 32 := 0#32
  let v310 : BitVec 1 := Scalar.cmpi .slt v306 c0_i32_223
  let v311 : BitVec 1 := Scalar.xori v309 v310
  let c0_i32_221 : BitVec 32 := 0#32
  let v308 : BitVec 1 := Scalar.cmpi .ne v307 c0_i32_221
  let v312 : BitVec 1 := Scalar.andi v311 v308
  let v313 : BitVec 32 := Scalar.addi v307 v306
  let v314 : BitVec 32 := Scalar.select v312 v313 v307
  let c1_i32_225 : BitVec 32 := 1#32
  let v315 : BitVec 32 := Scalar.muli v314 c1_i32_225
  let v316 : BitVec 32 := Scalar.addi c0_i32_226 v315
  v316.toNat
def k0_dev23 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_227 : BitVec 32 := 1#32
  let v317 : BitVec 32 := Scalar.addi v2 c1_i32_227
  let c22_i32 : BitVec 32 := 22#32
  let v318 : BitVec 32 := Scalar.addi v317 c22_i32
  let c32_i32_228 : BitVec 32 := 32#32
  let c0_i32_229 : BitVec 32 := 0#32
  let v319 : BitVec 1 := Scalar.cmpi .eq c32_i32_228 c0_i32_229
  let c1_i32_230 : BitVec 32 := 1#32
  let v320 : BitVec 32 := Scalar.select v319 c1_i32_230 c32_i32_228
  let v321 : BitVec 32 := Scalar.remsi v318 v320
  let c0_i32_232 : BitVec 32 := 0#32
  let v323 : BitVec 1 := Scalar.cmpi .slt v321 c0_i32_232
  let c0_i32_233 : BitVec 32 := 0#32
  let v324 : BitVec 1 := Scalar.cmpi .slt v320 c0_i32_233
  let v325 : BitVec 1 := Scalar.xori v323 v324
  let c0_i32_231 : BitVec 32 := 0#32
  let v322 : BitVec 1 := Scalar.cmpi .ne v321 c0_i32_231
  let v326 : BitVec 1 := Scalar.andi v325 v322
  let v327 : BitVec 32 := Scalar.addi v321 v320
  let v328 : BitVec 32 := Scalar.select v326 v327 v321
  let c1_i32_235 : BitVec 32 := 1#32
  let v329 : BitVec 32 := Scalar.muli v328 c1_i32_235
  let v330 : BitVec 32 := Scalar.addi c0_i32_236 v329
  v330.toNat
def k0_dev24 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_237 : BitVec 32 := 1#32
  let v331 : BitVec 32 := Scalar.addi v2 c1_i32_237
  let c23_i32 : BitVec 32 := 23#32
  let v332 : BitVec 32 := Scalar.addi v331 c23_i32
  let c32_i32_238 : BitVec 32 := 32#32
  let c0_i32_239 : BitVec 32 := 0#32
  let v333 : BitVec 1 := Scalar.cmpi .eq c32_i32_238 c0_i32_239
  let c1_i32_240 : BitVec 32 := 1#32
  let v334 : BitVec 32 := Scalar.select v333 c1_i32_240 c32_i32_238
  let v335 : BitVec 32 := Scalar.remsi v332 v334
  let c0_i32_242 : BitVec 32 := 0#32
  let v337 : BitVec 1 := Scalar.cmpi .slt v335 c0_i32_242
  let c0_i32_243 : BitVec 32 := 0#32
  let v338 : BitVec 1 := Scalar.cmpi .slt v334 c0_i32_243
  let v339 : BitVec 1 := Scalar.xori v337 v338
  let c0_i32_241 : BitVec 32 := 0#32
  let v336 : BitVec 1 := Scalar.cmpi .ne v335 c0_i32_241
  let v340 : BitVec 1 := Scalar.andi v339 v336
  let v341 : BitVec 32 := Scalar.addi v335 v334
  let v342 : BitVec 32 := Scalar.select v340 v341 v335
  let c1_i32_245 : BitVec 32 := 1#32
  let v343 : BitVec 32 := Scalar.muli v342 c1_i32_245
  let v344 : BitVec 32 := Scalar.addi c0_i32_246 v343
  v344.toNat
def k0_dev25 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_247 : BitVec 32 := 1#32
  let v345 : BitVec 32 := Scalar.addi v2 c1_i32_247
  let c24_i32 : BitVec 32 := 24#32
  let v346 : BitVec 32 := Scalar.addi v345 c24_i32
  let c32_i32_248 : BitVec 32 := 32#32
  let c0_i32_249 : BitVec 32 := 0#32
  let v347 : BitVec 1 := Scalar.cmpi .eq c32_i32_248 c0_i32_249
  let c1_i32_250 : BitVec 32 := 1#32
  let v348 : BitVec 32 := Scalar.select v347 c1_i32_250 c32_i32_248
  let v349 : BitVec 32 := Scalar.remsi v346 v348
  let c0_i32_252 : BitVec 32 := 0#32
  let v351 : BitVec 1 := Scalar.cmpi .slt v349 c0_i32_252
  let c0_i32_253 : BitVec 32 := 0#32
  let v352 : BitVec 1 := Scalar.cmpi .slt v348 c0_i32_253
  let v353 : BitVec 1 := Scalar.xori v351 v352
  let c0_i32_251 : BitVec 32 := 0#32
  let v350 : BitVec 1 := Scalar.cmpi .ne v349 c0_i32_251
  let v354 : BitVec 1 := Scalar.andi v353 v350
  let v355 : BitVec 32 := Scalar.addi v349 v348
  let v356 : BitVec 32 := Scalar.select v354 v355 v349
  let c1_i32_255 : BitVec 32 := 1#32
  let v357 : BitVec 32 := Scalar.muli v356 c1_i32_255
  let v358 : BitVec 32 := Scalar.addi c0_i32_256 v357
  v358.toNat
def k0_dev26 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_257 : BitVec 32 := 1#32
  let v359 : BitVec 32 := Scalar.addi v2 c1_i32_257
  let c25_i32 : BitVec 32 := 25#32
  let v360 : BitVec 32 := Scalar.addi v359 c25_i32
  let c32_i32_258 : BitVec 32 := 32#32
  let c0_i32_259 : BitVec 32 := 0#32
  let v361 : BitVec 1 := Scalar.cmpi .eq c32_i32_258 c0_i32_259
  let c1_i32_260 : BitVec 32 := 1#32
  let v362 : BitVec 32 := Scalar.select v361 c1_i32_260 c32_i32_258
  let v363 : BitVec 32 := Scalar.remsi v360 v362
  let c0_i32_262 : BitVec 32 := 0#32
  let v365 : BitVec 1 := Scalar.cmpi .slt v363 c0_i32_262
  let c0_i32_263 : BitVec 32 := 0#32
  let v366 : BitVec 1 := Scalar.cmpi .slt v362 c0_i32_263
  let v367 : BitVec 1 := Scalar.xori v365 v366
  let c0_i32_261 : BitVec 32 := 0#32
  let v364 : BitVec 1 := Scalar.cmpi .ne v363 c0_i32_261
  let v368 : BitVec 1 := Scalar.andi v367 v364
  let v369 : BitVec 32 := Scalar.addi v363 v362
  let v370 : BitVec 32 := Scalar.select v368 v369 v363
  let c1_i32_265 : BitVec 32 := 1#32
  let v371 : BitVec 32 := Scalar.muli v370 c1_i32_265
  let v372 : BitVec 32 := Scalar.addi c0_i32_266 v371
  v372.toNat
def k0_dev27 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_267 : BitVec 32 := 1#32
  let v373 : BitVec 32 := Scalar.addi v2 c1_i32_267
  let c26_i32 : BitVec 32 := 26#32
  let v374 : BitVec 32 := Scalar.addi v373 c26_i32
  let c32_i32_268 : BitVec 32 := 32#32
  let c0_i32_269 : BitVec 32 := 0#32
  let v375 : BitVec 1 := Scalar.cmpi .eq c32_i32_268 c0_i32_269
  let c1_i32_270 : BitVec 32 := 1#32
  let v376 : BitVec 32 := Scalar.select v375 c1_i32_270 c32_i32_268
  let v377 : BitVec 32 := Scalar.remsi v374 v376
  let c0_i32_272 : BitVec 32 := 0#32
  let v379 : BitVec 1 := Scalar.cmpi .slt v377 c0_i32_272
  let c0_i32_273 : BitVec 32 := 0#32
  let v380 : BitVec 1 := Scalar.cmpi .slt v376 c0_i32_273
  let v381 : BitVec 1 := Scalar.xori v379 v380
  let c0_i32_271 : BitVec 32 := 0#32
  let v378 : BitVec 1 := Scalar.cmpi .ne v377 c0_i32_271
  let v382 : BitVec 1 := Scalar.andi v381 v378
  let v383 : BitVec 32 := Scalar.addi v377 v376
  let v384 : BitVec 32 := Scalar.select v382 v383 v377
  let c1_i32_275 : BitVec 32 := 1#32
  let v385 : BitVec 32 := Scalar.muli v384 c1_i32_275
  let v386 : BitVec 32 := Scalar.addi c0_i32_276 v385
  v386.toNat
def k0_dev28 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_277 : BitVec 32 := 1#32
  let v387 : BitVec 32 := Scalar.addi v2 c1_i32_277
  let c27_i32 : BitVec 32 := 27#32
  let v388 : BitVec 32 := Scalar.addi v387 c27_i32
  let c32_i32_278 : BitVec 32 := 32#32
  let c0_i32_279 : BitVec 32 := 0#32
  let v389 : BitVec 1 := Scalar.cmpi .eq c32_i32_278 c0_i32_279
  let c1_i32_280 : BitVec 32 := 1#32
  let v390 : BitVec 32 := Scalar.select v389 c1_i32_280 c32_i32_278
  let v391 : BitVec 32 := Scalar.remsi v388 v390
  let c0_i32_282 : BitVec 32 := 0#32
  let v393 : BitVec 1 := Scalar.cmpi .slt v391 c0_i32_282
  let c0_i32_283 : BitVec 32 := 0#32
  let v394 : BitVec 1 := Scalar.cmpi .slt v390 c0_i32_283
  let v395 : BitVec 1 := Scalar.xori v393 v394
  let c0_i32_281 : BitVec 32 := 0#32
  let v392 : BitVec 1 := Scalar.cmpi .ne v391 c0_i32_281
  let v396 : BitVec 1 := Scalar.andi v395 v392
  let v397 : BitVec 32 := Scalar.addi v391 v390
  let v398 : BitVec 32 := Scalar.select v396 v397 v391
  let c1_i32_285 : BitVec 32 := 1#32
  let v399 : BitVec 32 := Scalar.muli v398 c1_i32_285
  let v400 : BitVec 32 := Scalar.addi c0_i32_286 v399
  v400.toNat
def k0_dev29 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_287 : BitVec 32 := 1#32
  let v401 : BitVec 32 := Scalar.addi v2 c1_i32_287
  let c28_i32 : BitVec 32 := 28#32
  let v402 : BitVec 32 := Scalar.addi v401 c28_i32
  let c32_i32_288 : BitVec 32 := 32#32
  let c0_i32_289 : BitVec 32 := 0#32
  let v403 : BitVec 1 := Scalar.cmpi .eq c32_i32_288 c0_i32_289
  let c1_i32_290 : BitVec 32 := 1#32
  let v404 : BitVec 32 := Scalar.select v403 c1_i32_290 c32_i32_288
  let v405 : BitVec 32 := Scalar.remsi v402 v404
  let c0_i32_292 : BitVec 32 := 0#32
  let v407 : BitVec 1 := Scalar.cmpi .slt v405 c0_i32_292
  let c0_i32_293 : BitVec 32 := 0#32
  let v408 : BitVec 1 := Scalar.cmpi .slt v404 c0_i32_293
  let v409 : BitVec 1 := Scalar.xori v407 v408
  let c0_i32_291 : BitVec 32 := 0#32
  let v406 : BitVec 1 := Scalar.cmpi .ne v405 c0_i32_291
  let v410 : BitVec 1 := Scalar.andi v409 v406
  let v411 : BitVec 32 := Scalar.addi v405 v404
  let v412 : BitVec 32 := Scalar.select v410 v411 v405
  let c1_i32_295 : BitVec 32 := 1#32
  let v413 : BitVec 32 := Scalar.muli v412 c1_i32_295
  let v414 : BitVec 32 := Scalar.addi c0_i32_296 v413
  v414.toNat
def k0_dev30 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_297 : BitVec 32 := 1#32
  let v415 : BitVec 32 := Scalar.addi v2 c1_i32_297
  let c29_i32 : BitVec 32 := 29#32
  let v416 : BitVec 32 := Scalar.addi v415 c29_i32
  let c32_i32_298 : BitVec 32 := 32#32
  let c0_i32_299 : BitVec 32 := 0#32
  let v417 : BitVec 1 := Scalar.cmpi .eq c32_i32_298 c0_i32_299
  let c1_i32_300 : BitVec 32 := 1#32
  let v418 : BitVec 32 := Scalar.select v417 c1_i32_300 c32_i32_298
  let v419 : BitVec 32 := Scalar.remsi v416 v418
  let c0_i32_302 : BitVec 32 := 0#32
  let v421 : BitVec 1 := Scalar.cmpi .slt v419 c0_i32_302
  let c0_i32_303 : BitVec 32 := 0#32
  let v422 : BitVec 1 := Scalar.cmpi .slt v418 c0_i32_303
  let v423 : BitVec 1 := Scalar.xori v421 v422
  let c0_i32_301 : BitVec 32 := 0#32
  let v420 : BitVec 1 := Scalar.cmpi .ne v419 c0_i32_301
  let v424 : BitVec 1 := Scalar.andi v423 v420
  let v425 : BitVec 32 := Scalar.addi v419 v418
  let v426 : BitVec 32 := Scalar.select v424 v425 v419
  let c1_i32_305 : BitVec 32 := 1#32
  let v427 : BitVec 32 := Scalar.muli v426 c1_i32_305
  let v428 : BitVec 32 := Scalar.addi c0_i32_306 v427
  v428.toNat
def k0_dev31 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_307 : BitVec 32 := 1#32
  let v429 : BitVec 32 := Scalar.addi v2 c1_i32_307
  let c30_i32 : BitVec 32 := 30#32
  let v430 : BitVec 32 := Scalar.addi v429 c30_i32
  let c32_i32_308 : BitVec 32 := 32#32
  let c0_i32_309 : BitVec 32 := 0#32
  let v431 : BitVec 1 := Scalar.cmpi .eq c32_i32_308 c0_i32_309
  let c1_i32_310 : BitVec 32 := 1#32
  let v432 : BitVec 32 := Scalar.select v431 c1_i32_310 c32_i32_308
  let v433 : BitVec 32 := Scalar.remsi v430 v432
  let c0_i32_312 : BitVec 32 := 0#32
  let v435 : BitVec 1 := Scalar.cmpi .slt v433 c0_i32_312
  let c0_i32_313 : BitVec 32 := 0#32
  let v436 : BitVec 1 := Scalar.cmpi .slt v432 c0_i32_313
  let v437 : BitVec 1 := Scalar.xori v435 v436
  let c0_i32_311 : BitVec 32 := 0#32
  let v434 : BitVec 1 := Scalar.cmpi .ne v433 c0_i32_311
  let v438 : BitVec 1 := Scalar.andi v437 v434
  let v439 : BitVec 32 := Scalar.addi v433 v432
  let v440 : BitVec 32 := Scalar.select v438 v439 v433
  let c1_i32_315 : BitVec 32 := 1#32
  let v441 : BitVec 32 := Scalar.muli v440 c1_i32_315
  let v442 : BitVec 32 := Scalar.addi c0_i32_316 v441
  v442.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_475 : BitVec 32 := 0#32
  let c0_i32_476 : BitVec 32 := 0#32
  ![v2.toNat, 0, 0]
def k0_dev32 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_464 : BitVec 32 := 1#32
  let v658 : BitVec 32 := Scalar.addi v2 c1_i32_464
  let c0_i32_465 : BitVec 32 := 0#32
  let v659 : BitVec 32 := Scalar.addi v658 c0_i32_465
  let c32_i32_466 : BitVec 32 := 32#32
  let c0_i32_467 : BitVec 32 := 0#32
  let v660 : BitVec 1 := Scalar.cmpi .eq c32_i32_466 c0_i32_467
  let c1_i32_468 : BitVec 32 := 1#32
  let v661 : BitVec 32 := Scalar.select v660 c1_i32_468 c32_i32_466
  let v662 : BitVec 32 := Scalar.remsi v659 v661
  let c0_i32_470 : BitVec 32 := 0#32
  let v664 : BitVec 1 := Scalar.cmpi .slt v662 c0_i32_470
  let c0_i32_471 : BitVec 32 := 0#32
  let v665 : BitVec 1 := Scalar.cmpi .slt v661 c0_i32_471
  let v666 : BitVec 1 := Scalar.xori v664 v665
  let c0_i32_469 : BitVec 32 := 0#32
  let v663 : BitVec 1 := Scalar.cmpi .ne v662 c0_i32_469
  let v667 : BitVec 1 := Scalar.andi v666 v663
  let v668 : BitVec 32 := Scalar.addi v662 v661
  let v669 : BitVec 32 := Scalar.select v667 v668 v662
  let c1_i32_473 : BitVec 32 := 1#32
  let v670 : BitVec 32 := Scalar.muli v669 c1_i32_473
  let v671 : BitVec 32 := Scalar.addi c0_i32_474 v670
  v671.toNat
def k0_dev33 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_477 : BitVec 32 := 1#32
  let v678 : BitVec 32 := Scalar.addi v2 c1_i32_477
  let c1_i32_478 : BitVec 32 := 1#32
  let v679 : BitVec 32 := Scalar.addi v678 c1_i32_478
  let c32_i32_479 : BitVec 32 := 32#32
  let c0_i32_480 : BitVec 32 := 0#32
  let v680 : BitVec 1 := Scalar.cmpi .eq c32_i32_479 c0_i32_480
  let c1_i32_481 : BitVec 32 := 1#32
  let v681 : BitVec 32 := Scalar.select v680 c1_i32_481 c32_i32_479
  let v682 : BitVec 32 := Scalar.remsi v679 v681
  let c0_i32_483 : BitVec 32 := 0#32
  let v684 : BitVec 1 := Scalar.cmpi .slt v682 c0_i32_483
  let c0_i32_484 : BitVec 32 := 0#32
  let v685 : BitVec 1 := Scalar.cmpi .slt v681 c0_i32_484
  let v686 : BitVec 1 := Scalar.xori v684 v685
  let c0_i32_482 : BitVec 32 := 0#32
  let v683 : BitVec 1 := Scalar.cmpi .ne v682 c0_i32_482
  let v687 : BitVec 1 := Scalar.andi v686 v683
  let v688 : BitVec 32 := Scalar.addi v682 v681
  let v689 : BitVec 32 := Scalar.select v687 v688 v682
  let c1_i32_486 : BitVec 32 := 1#32
  let v690 : BitVec 32 := Scalar.muli v689 c1_i32_486
  let v691 : BitVec 32 := Scalar.addi c0_i32_487 v690
  v691.toNat
def k0_dev34 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_490 : BitVec 32 := 1#32
  let v698 : BitVec 32 := Scalar.addi v2 c1_i32_490
  let c2_i32_491 : BitVec 32 := 2#32
  let v699 : BitVec 32 := Scalar.addi v698 c2_i32_491
  let c32_i32_492 : BitVec 32 := 32#32
  let c0_i32_493 : BitVec 32 := 0#32
  let v700 : BitVec 1 := Scalar.cmpi .eq c32_i32_492 c0_i32_493
  let c1_i32_494 : BitVec 32 := 1#32
  let v701 : BitVec 32 := Scalar.select v700 c1_i32_494 c32_i32_492
  let v702 : BitVec 32 := Scalar.remsi v699 v701
  let c0_i32_496 : BitVec 32 := 0#32
  let v704 : BitVec 1 := Scalar.cmpi .slt v702 c0_i32_496
  let c0_i32_497 : BitVec 32 := 0#32
  let v705 : BitVec 1 := Scalar.cmpi .slt v701 c0_i32_497
  let v706 : BitVec 1 := Scalar.xori v704 v705
  let c0_i32_495 : BitVec 32 := 0#32
  let v703 : BitVec 1 := Scalar.cmpi .ne v702 c0_i32_495
  let v707 : BitVec 1 := Scalar.andi v706 v703
  let v708 : BitVec 32 := Scalar.addi v702 v701
  let v709 : BitVec 32 := Scalar.select v707 v708 v702
  let c1_i32_499 : BitVec 32 := 1#32
  let v710 : BitVec 32 := Scalar.muli v709 c1_i32_499
  let v711 : BitVec 32 := Scalar.addi c0_i32_500 v710
  v711.toNat
def k0_dev35 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_503 : BitVec 32 := 1#32
  let v718 : BitVec 32 := Scalar.addi v2 c1_i32_503
  let c3_i32_504 : BitVec 32 := 3#32
  let v719 : BitVec 32 := Scalar.addi v718 c3_i32_504
  let c32_i32_505 : BitVec 32 := 32#32
  let c0_i32_506 : BitVec 32 := 0#32
  let v720 : BitVec 1 := Scalar.cmpi .eq c32_i32_505 c0_i32_506
  let c1_i32_507 : BitVec 32 := 1#32
  let v721 : BitVec 32 := Scalar.select v720 c1_i32_507 c32_i32_505
  let v722 : BitVec 32 := Scalar.remsi v719 v721
  let c0_i32_509 : BitVec 32 := 0#32
  let v724 : BitVec 1 := Scalar.cmpi .slt v722 c0_i32_509
  let c0_i32_510 : BitVec 32 := 0#32
  let v725 : BitVec 1 := Scalar.cmpi .slt v721 c0_i32_510
  let v726 : BitVec 1 := Scalar.xori v724 v725
  let c0_i32_508 : BitVec 32 := 0#32
  let v723 : BitVec 1 := Scalar.cmpi .ne v722 c0_i32_508
  let v727 : BitVec 1 := Scalar.andi v726 v723
  let v728 : BitVec 32 := Scalar.addi v722 v721
  let v729 : BitVec 32 := Scalar.select v727 v728 v722
  let c1_i32_512 : BitVec 32 := 1#32
  let v730 : BitVec 32 := Scalar.muli v729 c1_i32_512
  let v731 : BitVec 32 := Scalar.addi c0_i32_513 v730
  v731.toNat
def k0_dev36 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_516 : BitVec 32 := 1#32
  let v738 : BitVec 32 := Scalar.addi v2 c1_i32_516
  let c4_i32_517 : BitVec 32 := 4#32
  let v739 : BitVec 32 := Scalar.addi v738 c4_i32_517
  let c32_i32_518 : BitVec 32 := 32#32
  let c0_i32_519 : BitVec 32 := 0#32
  let v740 : BitVec 1 := Scalar.cmpi .eq c32_i32_518 c0_i32_519
  let c1_i32_520 : BitVec 32 := 1#32
  let v741 : BitVec 32 := Scalar.select v740 c1_i32_520 c32_i32_518
  let v742 : BitVec 32 := Scalar.remsi v739 v741
  let c0_i32_522 : BitVec 32 := 0#32
  let v744 : BitVec 1 := Scalar.cmpi .slt v742 c0_i32_522
  let c0_i32_523 : BitVec 32 := 0#32
  let v745 : BitVec 1 := Scalar.cmpi .slt v741 c0_i32_523
  let v746 : BitVec 1 := Scalar.xori v744 v745
  let c0_i32_521 : BitVec 32 := 0#32
  let v743 : BitVec 1 := Scalar.cmpi .ne v742 c0_i32_521
  let v747 : BitVec 1 := Scalar.andi v746 v743
  let v748 : BitVec 32 := Scalar.addi v742 v741
  let v749 : BitVec 32 := Scalar.select v747 v748 v742
  let c1_i32_525 : BitVec 32 := 1#32
  let v750 : BitVec 32 := Scalar.muli v749 c1_i32_525
  let v751 : BitVec 32 := Scalar.addi c0_i32_526 v750
  v751.toNat
def k0_dev37 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_529 : BitVec 32 := 1#32
  let v758 : BitVec 32 := Scalar.addi v2 c1_i32_529
  let c5_i32_530 : BitVec 32 := 5#32
  let v759 : BitVec 32 := Scalar.addi v758 c5_i32_530
  let c32_i32_531 : BitVec 32 := 32#32
  let c0_i32_532 : BitVec 32 := 0#32
  let v760 : BitVec 1 := Scalar.cmpi .eq c32_i32_531 c0_i32_532
  let c1_i32_533 : BitVec 32 := 1#32
  let v761 : BitVec 32 := Scalar.select v760 c1_i32_533 c32_i32_531
  let v762 : BitVec 32 := Scalar.remsi v759 v761
  let c0_i32_535 : BitVec 32 := 0#32
  let v764 : BitVec 1 := Scalar.cmpi .slt v762 c0_i32_535
  let c0_i32_536 : BitVec 32 := 0#32
  let v765 : BitVec 1 := Scalar.cmpi .slt v761 c0_i32_536
  let v766 : BitVec 1 := Scalar.xori v764 v765
  let c0_i32_534 : BitVec 32 := 0#32
  let v763 : BitVec 1 := Scalar.cmpi .ne v762 c0_i32_534
  let v767 : BitVec 1 := Scalar.andi v766 v763
  let v768 : BitVec 32 := Scalar.addi v762 v761
  let v769 : BitVec 32 := Scalar.select v767 v768 v762
  let c1_i32_538 : BitVec 32 := 1#32
  let v770 : BitVec 32 := Scalar.muli v769 c1_i32_538
  let v771 : BitVec 32 := Scalar.addi c0_i32_539 v770
  v771.toNat
def k0_dev38 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_542 : BitVec 32 := 1#32
  let v778 : BitVec 32 := Scalar.addi v2 c1_i32_542
  let c6_i32_543 : BitVec 32 := 6#32
  let v779 : BitVec 32 := Scalar.addi v778 c6_i32_543
  let c32_i32_544 : BitVec 32 := 32#32
  let c0_i32_545 : BitVec 32 := 0#32
  let v780 : BitVec 1 := Scalar.cmpi .eq c32_i32_544 c0_i32_545
  let c1_i32_546 : BitVec 32 := 1#32
  let v781 : BitVec 32 := Scalar.select v780 c1_i32_546 c32_i32_544
  let v782 : BitVec 32 := Scalar.remsi v779 v781
  let c0_i32_548 : BitVec 32 := 0#32
  let v784 : BitVec 1 := Scalar.cmpi .slt v782 c0_i32_548
  let c0_i32_549 : BitVec 32 := 0#32
  let v785 : BitVec 1 := Scalar.cmpi .slt v781 c0_i32_549
  let v786 : BitVec 1 := Scalar.xori v784 v785
  let c0_i32_547 : BitVec 32 := 0#32
  let v783 : BitVec 1 := Scalar.cmpi .ne v782 c0_i32_547
  let v787 : BitVec 1 := Scalar.andi v786 v783
  let v788 : BitVec 32 := Scalar.addi v782 v781
  let v789 : BitVec 32 := Scalar.select v787 v788 v782
  let c1_i32_551 : BitVec 32 := 1#32
  let v790 : BitVec 32 := Scalar.muli v789 c1_i32_551
  let v791 : BitVec 32 := Scalar.addi c0_i32_552 v790
  v791.toNat
def k0_dev39 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_555 : BitVec 32 := 1#32
  let v798 : BitVec 32 := Scalar.addi v2 c1_i32_555
  let c7_i32_556 : BitVec 32 := 7#32
  let v799 : BitVec 32 := Scalar.addi v798 c7_i32_556
  let c32_i32_557 : BitVec 32 := 32#32
  let c0_i32_558 : BitVec 32 := 0#32
  let v800 : BitVec 1 := Scalar.cmpi .eq c32_i32_557 c0_i32_558
  let c1_i32_559 : BitVec 32 := 1#32
  let v801 : BitVec 32 := Scalar.select v800 c1_i32_559 c32_i32_557
  let v802 : BitVec 32 := Scalar.remsi v799 v801
  let c0_i32_561 : BitVec 32 := 0#32
  let v804 : BitVec 1 := Scalar.cmpi .slt v802 c0_i32_561
  let c0_i32_562 : BitVec 32 := 0#32
  let v805 : BitVec 1 := Scalar.cmpi .slt v801 c0_i32_562
  let v806 : BitVec 1 := Scalar.xori v804 v805
  let c0_i32_560 : BitVec 32 := 0#32
  let v803 : BitVec 1 := Scalar.cmpi .ne v802 c0_i32_560
  let v807 : BitVec 1 := Scalar.andi v806 v803
  let v808 : BitVec 32 := Scalar.addi v802 v801
  let v809 : BitVec 32 := Scalar.select v807 v808 v802
  let c1_i32_564 : BitVec 32 := 1#32
  let v810 : BitVec 32 := Scalar.muli v809 c1_i32_564
  let v811 : BitVec 32 := Scalar.addi c0_i32_565 v810
  v811.toNat
def k0_dev40 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_568 : BitVec 32 := 1#32
  let v818 : BitVec 32 := Scalar.addi v2 c1_i32_568
  let c8_i32_569 : BitVec 32 := 8#32
  let v819 : BitVec 32 := Scalar.addi v818 c8_i32_569
  let c32_i32_570 : BitVec 32 := 32#32
  let c0_i32_571 : BitVec 32 := 0#32
  let v820 : BitVec 1 := Scalar.cmpi .eq c32_i32_570 c0_i32_571
  let c1_i32_572 : BitVec 32 := 1#32
  let v821 : BitVec 32 := Scalar.select v820 c1_i32_572 c32_i32_570
  let v822 : BitVec 32 := Scalar.remsi v819 v821
  let c0_i32_574 : BitVec 32 := 0#32
  let v824 : BitVec 1 := Scalar.cmpi .slt v822 c0_i32_574
  let c0_i32_575 : BitVec 32 := 0#32
  let v825 : BitVec 1 := Scalar.cmpi .slt v821 c0_i32_575
  let v826 : BitVec 1 := Scalar.xori v824 v825
  let c0_i32_573 : BitVec 32 := 0#32
  let v823 : BitVec 1 := Scalar.cmpi .ne v822 c0_i32_573
  let v827 : BitVec 1 := Scalar.andi v826 v823
  let v828 : BitVec 32 := Scalar.addi v822 v821
  let v829 : BitVec 32 := Scalar.select v827 v828 v822
  let c1_i32_577 : BitVec 32 := 1#32
  let v830 : BitVec 32 := Scalar.muli v829 c1_i32_577
  let v831 : BitVec 32 := Scalar.addi c0_i32_578 v830
  v831.toNat
def k0_dev41 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_581 : BitVec 32 := 1#32
  let v838 : BitVec 32 := Scalar.addi v2 c1_i32_581
  let c9_i32_582 : BitVec 32 := 9#32
  let v839 : BitVec 32 := Scalar.addi v838 c9_i32_582
  let c32_i32_583 : BitVec 32 := 32#32
  let c0_i32_584 : BitVec 32 := 0#32
  let v840 : BitVec 1 := Scalar.cmpi .eq c32_i32_583 c0_i32_584
  let c1_i32_585 : BitVec 32 := 1#32
  let v841 : BitVec 32 := Scalar.select v840 c1_i32_585 c32_i32_583
  let v842 : BitVec 32 := Scalar.remsi v839 v841
  let c0_i32_587 : BitVec 32 := 0#32
  let v844 : BitVec 1 := Scalar.cmpi .slt v842 c0_i32_587
  let c0_i32_588 : BitVec 32 := 0#32
  let v845 : BitVec 1 := Scalar.cmpi .slt v841 c0_i32_588
  let v846 : BitVec 1 := Scalar.xori v844 v845
  let c0_i32_586 : BitVec 32 := 0#32
  let v843 : BitVec 1 := Scalar.cmpi .ne v842 c0_i32_586
  let v847 : BitVec 1 := Scalar.andi v846 v843
  let v848 : BitVec 32 := Scalar.addi v842 v841
  let v849 : BitVec 32 := Scalar.select v847 v848 v842
  let c1_i32_590 : BitVec 32 := 1#32
  let v850 : BitVec 32 := Scalar.muli v849 c1_i32_590
  let v851 : BitVec 32 := Scalar.addi c0_i32_591 v850
  v851.toNat
def k0_dev42 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_594 : BitVec 32 := 1#32
  let v858 : BitVec 32 := Scalar.addi v2 c1_i32_594
  let c10_i32_595 : BitVec 32 := 10#32
  let v859 : BitVec 32 := Scalar.addi v858 c10_i32_595
  let c32_i32_596 : BitVec 32 := 32#32
  let c0_i32_597 : BitVec 32 := 0#32
  let v860 : BitVec 1 := Scalar.cmpi .eq c32_i32_596 c0_i32_597
  let c1_i32_598 : BitVec 32 := 1#32
  let v861 : BitVec 32 := Scalar.select v860 c1_i32_598 c32_i32_596
  let v862 : BitVec 32 := Scalar.remsi v859 v861
  let c0_i32_600 : BitVec 32 := 0#32
  let v864 : BitVec 1 := Scalar.cmpi .slt v862 c0_i32_600
  let c0_i32_601 : BitVec 32 := 0#32
  let v865 : BitVec 1 := Scalar.cmpi .slt v861 c0_i32_601
  let v866 : BitVec 1 := Scalar.xori v864 v865
  let c0_i32_599 : BitVec 32 := 0#32
  let v863 : BitVec 1 := Scalar.cmpi .ne v862 c0_i32_599
  let v867 : BitVec 1 := Scalar.andi v866 v863
  let v868 : BitVec 32 := Scalar.addi v862 v861
  let v869 : BitVec 32 := Scalar.select v867 v868 v862
  let c1_i32_603 : BitVec 32 := 1#32
  let v870 : BitVec 32 := Scalar.muli v869 c1_i32_603
  let v871 : BitVec 32 := Scalar.addi c0_i32_604 v870
  v871.toNat
def k0_dev43 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_607 : BitVec 32 := 1#32
  let v878 : BitVec 32 := Scalar.addi v2 c1_i32_607
  let c11_i32_608 : BitVec 32 := 11#32
  let v879 : BitVec 32 := Scalar.addi v878 c11_i32_608
  let c32_i32_609 : BitVec 32 := 32#32
  let c0_i32_610 : BitVec 32 := 0#32
  let v880 : BitVec 1 := Scalar.cmpi .eq c32_i32_609 c0_i32_610
  let c1_i32_611 : BitVec 32 := 1#32
  let v881 : BitVec 32 := Scalar.select v880 c1_i32_611 c32_i32_609
  let v882 : BitVec 32 := Scalar.remsi v879 v881
  let c0_i32_613 : BitVec 32 := 0#32
  let v884 : BitVec 1 := Scalar.cmpi .slt v882 c0_i32_613
  let c0_i32_614 : BitVec 32 := 0#32
  let v885 : BitVec 1 := Scalar.cmpi .slt v881 c0_i32_614
  let v886 : BitVec 1 := Scalar.xori v884 v885
  let c0_i32_612 : BitVec 32 := 0#32
  let v883 : BitVec 1 := Scalar.cmpi .ne v882 c0_i32_612
  let v887 : BitVec 1 := Scalar.andi v886 v883
  let v888 : BitVec 32 := Scalar.addi v882 v881
  let v889 : BitVec 32 := Scalar.select v887 v888 v882
  let c1_i32_616 : BitVec 32 := 1#32
  let v890 : BitVec 32 := Scalar.muli v889 c1_i32_616
  let v891 : BitVec 32 := Scalar.addi c0_i32_617 v890
  v891.toNat
def k0_dev44 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_620 : BitVec 32 := 1#32
  let v898 : BitVec 32 := Scalar.addi v2 c1_i32_620
  let c12_i32_621 : BitVec 32 := 12#32
  let v899 : BitVec 32 := Scalar.addi v898 c12_i32_621
  let c32_i32_622 : BitVec 32 := 32#32
  let c0_i32_623 : BitVec 32 := 0#32
  let v900 : BitVec 1 := Scalar.cmpi .eq c32_i32_622 c0_i32_623
  let c1_i32_624 : BitVec 32 := 1#32
  let v901 : BitVec 32 := Scalar.select v900 c1_i32_624 c32_i32_622
  let v902 : BitVec 32 := Scalar.remsi v899 v901
  let c0_i32_626 : BitVec 32 := 0#32
  let v904 : BitVec 1 := Scalar.cmpi .slt v902 c0_i32_626
  let c0_i32_627 : BitVec 32 := 0#32
  let v905 : BitVec 1 := Scalar.cmpi .slt v901 c0_i32_627
  let v906 : BitVec 1 := Scalar.xori v904 v905
  let c0_i32_625 : BitVec 32 := 0#32
  let v903 : BitVec 1 := Scalar.cmpi .ne v902 c0_i32_625
  let v907 : BitVec 1 := Scalar.andi v906 v903
  let v908 : BitVec 32 := Scalar.addi v902 v901
  let v909 : BitVec 32 := Scalar.select v907 v908 v902
  let c1_i32_629 : BitVec 32 := 1#32
  let v910 : BitVec 32 := Scalar.muli v909 c1_i32_629
  let v911 : BitVec 32 := Scalar.addi c0_i32_630 v910
  v911.toNat
def k0_dev45 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_633 : BitVec 32 := 1#32
  let v918 : BitVec 32 := Scalar.addi v2 c1_i32_633
  let c13_i32_634 : BitVec 32 := 13#32
  let v919 : BitVec 32 := Scalar.addi v918 c13_i32_634
  let c32_i32_635 : BitVec 32 := 32#32
  let c0_i32_636 : BitVec 32 := 0#32
  let v920 : BitVec 1 := Scalar.cmpi .eq c32_i32_635 c0_i32_636
  let c1_i32_637 : BitVec 32 := 1#32
  let v921 : BitVec 32 := Scalar.select v920 c1_i32_637 c32_i32_635
  let v922 : BitVec 32 := Scalar.remsi v919 v921
  let c0_i32_639 : BitVec 32 := 0#32
  let v924 : BitVec 1 := Scalar.cmpi .slt v922 c0_i32_639
  let c0_i32_640 : BitVec 32 := 0#32
  let v925 : BitVec 1 := Scalar.cmpi .slt v921 c0_i32_640
  let v926 : BitVec 1 := Scalar.xori v924 v925
  let c0_i32_638 : BitVec 32 := 0#32
  let v923 : BitVec 1 := Scalar.cmpi .ne v922 c0_i32_638
  let v927 : BitVec 1 := Scalar.andi v926 v923
  let v928 : BitVec 32 := Scalar.addi v922 v921
  let v929 : BitVec 32 := Scalar.select v927 v928 v922
  let c1_i32_642 : BitVec 32 := 1#32
  let v930 : BitVec 32 := Scalar.muli v929 c1_i32_642
  let v931 : BitVec 32 := Scalar.addi c0_i32_643 v930
  v931.toNat
def k0_dev46 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_646 : BitVec 32 := 1#32
  let v938 : BitVec 32 := Scalar.addi v2 c1_i32_646
  let c14_i32_647 : BitVec 32 := 14#32
  let v939 : BitVec 32 := Scalar.addi v938 c14_i32_647
  let c32_i32_648 : BitVec 32 := 32#32
  let c0_i32_649 : BitVec 32 := 0#32
  let v940 : BitVec 1 := Scalar.cmpi .eq c32_i32_648 c0_i32_649
  let c1_i32_650 : BitVec 32 := 1#32
  let v941 : BitVec 32 := Scalar.select v940 c1_i32_650 c32_i32_648
  let v942 : BitVec 32 := Scalar.remsi v939 v941
  let c0_i32_652 : BitVec 32 := 0#32
  let v944 : BitVec 1 := Scalar.cmpi .slt v942 c0_i32_652
  let c0_i32_653 : BitVec 32 := 0#32
  let v945 : BitVec 1 := Scalar.cmpi .slt v941 c0_i32_653
  let v946 : BitVec 1 := Scalar.xori v944 v945
  let c0_i32_651 : BitVec 32 := 0#32
  let v943 : BitVec 1 := Scalar.cmpi .ne v942 c0_i32_651
  let v947 : BitVec 1 := Scalar.andi v946 v943
  let v948 : BitVec 32 := Scalar.addi v942 v941
  let v949 : BitVec 32 := Scalar.select v947 v948 v942
  let c1_i32_655 : BitVec 32 := 1#32
  let v950 : BitVec 32 := Scalar.muli v949 c1_i32_655
  let v951 : BitVec 32 := Scalar.addi c0_i32_656 v950
  v951.toNat
def k0_dev47 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_659 : BitVec 32 := 1#32
  let v958 : BitVec 32 := Scalar.addi v2 c1_i32_659
  let c15_i32_660 : BitVec 32 := 15#32
  let v959 : BitVec 32 := Scalar.addi v958 c15_i32_660
  let c32_i32_661 : BitVec 32 := 32#32
  let c0_i32_662 : BitVec 32 := 0#32
  let v960 : BitVec 1 := Scalar.cmpi .eq c32_i32_661 c0_i32_662
  let c1_i32_663 : BitVec 32 := 1#32
  let v961 : BitVec 32 := Scalar.select v960 c1_i32_663 c32_i32_661
  let v962 : BitVec 32 := Scalar.remsi v959 v961
  let c0_i32_665 : BitVec 32 := 0#32
  let v964 : BitVec 1 := Scalar.cmpi .slt v962 c0_i32_665
  let c0_i32_666 : BitVec 32 := 0#32
  let v965 : BitVec 1 := Scalar.cmpi .slt v961 c0_i32_666
  let v966 : BitVec 1 := Scalar.xori v964 v965
  let c0_i32_664 : BitVec 32 := 0#32
  let v963 : BitVec 1 := Scalar.cmpi .ne v962 c0_i32_664
  let v967 : BitVec 1 := Scalar.andi v966 v963
  let v968 : BitVec 32 := Scalar.addi v962 v961
  let v969 : BitVec 32 := Scalar.select v967 v968 v962
  let c1_i32_668 : BitVec 32 := 1#32
  let v970 : BitVec 32 := Scalar.muli v969 c1_i32_668
  let v971 : BitVec 32 := Scalar.addi c0_i32_669 v970
  v971.toNat
def k0_dev48 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_672 : BitVec 32 := 1#32
  let v978 : BitVec 32 := Scalar.addi v2 c1_i32_672
  let c16_i32_673 : BitVec 32 := 16#32
  let v979 : BitVec 32 := Scalar.addi v978 c16_i32_673
  let c32_i32_674 : BitVec 32 := 32#32
  let c0_i32_675 : BitVec 32 := 0#32
  let v980 : BitVec 1 := Scalar.cmpi .eq c32_i32_674 c0_i32_675
  let c1_i32_676 : BitVec 32 := 1#32
  let v981 : BitVec 32 := Scalar.select v980 c1_i32_676 c32_i32_674
  let v982 : BitVec 32 := Scalar.remsi v979 v981
  let c0_i32_678 : BitVec 32 := 0#32
  let v984 : BitVec 1 := Scalar.cmpi .slt v982 c0_i32_678
  let c0_i32_679 : BitVec 32 := 0#32
  let v985 : BitVec 1 := Scalar.cmpi .slt v981 c0_i32_679
  let v986 : BitVec 1 := Scalar.xori v984 v985
  let c0_i32_677 : BitVec 32 := 0#32
  let v983 : BitVec 1 := Scalar.cmpi .ne v982 c0_i32_677
  let v987 : BitVec 1 := Scalar.andi v986 v983
  let v988 : BitVec 32 := Scalar.addi v982 v981
  let v989 : BitVec 32 := Scalar.select v987 v988 v982
  let c1_i32_681 : BitVec 32 := 1#32
  let v990 : BitVec 32 := Scalar.muli v989 c1_i32_681
  let v991 : BitVec 32 := Scalar.addi c0_i32_682 v990
  v991.toNat
def k0_dev49 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_685 : BitVec 32 := 1#32
  let v998 : BitVec 32 := Scalar.addi v2 c1_i32_685
  let c17_i32_686 : BitVec 32 := 17#32
  let v999 : BitVec 32 := Scalar.addi v998 c17_i32_686
  let c32_i32_687 : BitVec 32 := 32#32
  let c0_i32_688 : BitVec 32 := 0#32
  let v1000 : BitVec 1 := Scalar.cmpi .eq c32_i32_687 c0_i32_688
  let c1_i32_689 : BitVec 32 := 1#32
  let v1001 : BitVec 32 := Scalar.select v1000 c1_i32_689 c32_i32_687
  let v1002 : BitVec 32 := Scalar.remsi v999 v1001
  let c0_i32_691 : BitVec 32 := 0#32
  let v1004 : BitVec 1 := Scalar.cmpi .slt v1002 c0_i32_691
  let c0_i32_692 : BitVec 32 := 0#32
  let v1005 : BitVec 1 := Scalar.cmpi .slt v1001 c0_i32_692
  let v1006 : BitVec 1 := Scalar.xori v1004 v1005
  let c0_i32_690 : BitVec 32 := 0#32
  let v1003 : BitVec 1 := Scalar.cmpi .ne v1002 c0_i32_690
  let v1007 : BitVec 1 := Scalar.andi v1006 v1003
  let v1008 : BitVec 32 := Scalar.addi v1002 v1001
  let v1009 : BitVec 32 := Scalar.select v1007 v1008 v1002
  let c1_i32_694 : BitVec 32 := 1#32
  let v1010 : BitVec 32 := Scalar.muli v1009 c1_i32_694
  let v1011 : BitVec 32 := Scalar.addi c0_i32_695 v1010
  v1011.toNat
def k0_dev50 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_698 : BitVec 32 := 1#32
  let v1018 : BitVec 32 := Scalar.addi v2 c1_i32_698
  let c18_i32_699 : BitVec 32 := 18#32
  let v1019 : BitVec 32 := Scalar.addi v1018 c18_i32_699
  let c32_i32_700 : BitVec 32 := 32#32
  let c0_i32_701 : BitVec 32 := 0#32
  let v1020 : BitVec 1 := Scalar.cmpi .eq c32_i32_700 c0_i32_701
  let c1_i32_702 : BitVec 32 := 1#32
  let v1021 : BitVec 32 := Scalar.select v1020 c1_i32_702 c32_i32_700
  let v1022 : BitVec 32 := Scalar.remsi v1019 v1021
  let c0_i32_704 : BitVec 32 := 0#32
  let v1024 : BitVec 1 := Scalar.cmpi .slt v1022 c0_i32_704
  let c0_i32_705 : BitVec 32 := 0#32
  let v1025 : BitVec 1 := Scalar.cmpi .slt v1021 c0_i32_705
  let v1026 : BitVec 1 := Scalar.xori v1024 v1025
  let c0_i32_703 : BitVec 32 := 0#32
  let v1023 : BitVec 1 := Scalar.cmpi .ne v1022 c0_i32_703
  let v1027 : BitVec 1 := Scalar.andi v1026 v1023
  let v1028 : BitVec 32 := Scalar.addi v1022 v1021
  let v1029 : BitVec 32 := Scalar.select v1027 v1028 v1022
  let c1_i32_707 : BitVec 32 := 1#32
  let v1030 : BitVec 32 := Scalar.muli v1029 c1_i32_707
  let v1031 : BitVec 32 := Scalar.addi c0_i32_708 v1030
  v1031.toNat
def k0_dev51 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_711 : BitVec 32 := 1#32
  let v1038 : BitVec 32 := Scalar.addi v2 c1_i32_711
  let c19_i32_712 : BitVec 32 := 19#32
  let v1039 : BitVec 32 := Scalar.addi v1038 c19_i32_712
  let c32_i32_713 : BitVec 32 := 32#32
  let c0_i32_714 : BitVec 32 := 0#32
  let v1040 : BitVec 1 := Scalar.cmpi .eq c32_i32_713 c0_i32_714
  let c1_i32_715 : BitVec 32 := 1#32
  let v1041 : BitVec 32 := Scalar.select v1040 c1_i32_715 c32_i32_713
  let v1042 : BitVec 32 := Scalar.remsi v1039 v1041
  let c0_i32_717 : BitVec 32 := 0#32
  let v1044 : BitVec 1 := Scalar.cmpi .slt v1042 c0_i32_717
  let c0_i32_718 : BitVec 32 := 0#32
  let v1045 : BitVec 1 := Scalar.cmpi .slt v1041 c0_i32_718
  let v1046 : BitVec 1 := Scalar.xori v1044 v1045
  let c0_i32_716 : BitVec 32 := 0#32
  let v1043 : BitVec 1 := Scalar.cmpi .ne v1042 c0_i32_716
  let v1047 : BitVec 1 := Scalar.andi v1046 v1043
  let v1048 : BitVec 32 := Scalar.addi v1042 v1041
  let v1049 : BitVec 32 := Scalar.select v1047 v1048 v1042
  let c1_i32_720 : BitVec 32 := 1#32
  let v1050 : BitVec 32 := Scalar.muli v1049 c1_i32_720
  let v1051 : BitVec 32 := Scalar.addi c0_i32_721 v1050
  v1051.toNat
def k0_dev52 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_724 : BitVec 32 := 1#32
  let v1058 : BitVec 32 := Scalar.addi v2 c1_i32_724
  let c20_i32_725 : BitVec 32 := 20#32
  let v1059 : BitVec 32 := Scalar.addi v1058 c20_i32_725
  let c32_i32_726 : BitVec 32 := 32#32
  let c0_i32_727 : BitVec 32 := 0#32
  let v1060 : BitVec 1 := Scalar.cmpi .eq c32_i32_726 c0_i32_727
  let c1_i32_728 : BitVec 32 := 1#32
  let v1061 : BitVec 32 := Scalar.select v1060 c1_i32_728 c32_i32_726
  let v1062 : BitVec 32 := Scalar.remsi v1059 v1061
  let c0_i32_730 : BitVec 32 := 0#32
  let v1064 : BitVec 1 := Scalar.cmpi .slt v1062 c0_i32_730
  let c0_i32_731 : BitVec 32 := 0#32
  let v1065 : BitVec 1 := Scalar.cmpi .slt v1061 c0_i32_731
  let v1066 : BitVec 1 := Scalar.xori v1064 v1065
  let c0_i32_729 : BitVec 32 := 0#32
  let v1063 : BitVec 1 := Scalar.cmpi .ne v1062 c0_i32_729
  let v1067 : BitVec 1 := Scalar.andi v1066 v1063
  let v1068 : BitVec 32 := Scalar.addi v1062 v1061
  let v1069 : BitVec 32 := Scalar.select v1067 v1068 v1062
  let c1_i32_733 : BitVec 32 := 1#32
  let v1070 : BitVec 32 := Scalar.muli v1069 c1_i32_733
  let v1071 : BitVec 32 := Scalar.addi c0_i32_734 v1070
  v1071.toNat
def k0_dev53 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_737 : BitVec 32 := 1#32
  let v1078 : BitVec 32 := Scalar.addi v2 c1_i32_737
  let c21_i32_738 : BitVec 32 := 21#32
  let v1079 : BitVec 32 := Scalar.addi v1078 c21_i32_738
  let c32_i32_739 : BitVec 32 := 32#32
  let c0_i32_740 : BitVec 32 := 0#32
  let v1080 : BitVec 1 := Scalar.cmpi .eq c32_i32_739 c0_i32_740
  let c1_i32_741 : BitVec 32 := 1#32
  let v1081 : BitVec 32 := Scalar.select v1080 c1_i32_741 c32_i32_739
  let v1082 : BitVec 32 := Scalar.remsi v1079 v1081
  let c0_i32_743 : BitVec 32 := 0#32
  let v1084 : BitVec 1 := Scalar.cmpi .slt v1082 c0_i32_743
  let c0_i32_744 : BitVec 32 := 0#32
  let v1085 : BitVec 1 := Scalar.cmpi .slt v1081 c0_i32_744
  let v1086 : BitVec 1 := Scalar.xori v1084 v1085
  let c0_i32_742 : BitVec 32 := 0#32
  let v1083 : BitVec 1 := Scalar.cmpi .ne v1082 c0_i32_742
  let v1087 : BitVec 1 := Scalar.andi v1086 v1083
  let v1088 : BitVec 32 := Scalar.addi v1082 v1081
  let v1089 : BitVec 32 := Scalar.select v1087 v1088 v1082
  let c1_i32_746 : BitVec 32 := 1#32
  let v1090 : BitVec 32 := Scalar.muli v1089 c1_i32_746
  let v1091 : BitVec 32 := Scalar.addi c0_i32_747 v1090
  v1091.toNat
def k0_dev54 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_750 : BitVec 32 := 1#32
  let v1098 : BitVec 32 := Scalar.addi v2 c1_i32_750
  let c22_i32_751 : BitVec 32 := 22#32
  let v1099 : BitVec 32 := Scalar.addi v1098 c22_i32_751
  let c32_i32_752 : BitVec 32 := 32#32
  let c0_i32_753 : BitVec 32 := 0#32
  let v1100 : BitVec 1 := Scalar.cmpi .eq c32_i32_752 c0_i32_753
  let c1_i32_754 : BitVec 32 := 1#32
  let v1101 : BitVec 32 := Scalar.select v1100 c1_i32_754 c32_i32_752
  let v1102 : BitVec 32 := Scalar.remsi v1099 v1101
  let c0_i32_756 : BitVec 32 := 0#32
  let v1104 : BitVec 1 := Scalar.cmpi .slt v1102 c0_i32_756
  let c0_i32_757 : BitVec 32 := 0#32
  let v1105 : BitVec 1 := Scalar.cmpi .slt v1101 c0_i32_757
  let v1106 : BitVec 1 := Scalar.xori v1104 v1105
  let c0_i32_755 : BitVec 32 := 0#32
  let v1103 : BitVec 1 := Scalar.cmpi .ne v1102 c0_i32_755
  let v1107 : BitVec 1 := Scalar.andi v1106 v1103
  let v1108 : BitVec 32 := Scalar.addi v1102 v1101
  let v1109 : BitVec 32 := Scalar.select v1107 v1108 v1102
  let c1_i32_759 : BitVec 32 := 1#32
  let v1110 : BitVec 32 := Scalar.muli v1109 c1_i32_759
  let v1111 : BitVec 32 := Scalar.addi c0_i32_760 v1110
  v1111.toNat
def k0_dev55 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_763 : BitVec 32 := 1#32
  let v1118 : BitVec 32 := Scalar.addi v2 c1_i32_763
  let c23_i32_764 : BitVec 32 := 23#32
  let v1119 : BitVec 32 := Scalar.addi v1118 c23_i32_764
  let c32_i32_765 : BitVec 32 := 32#32
  let c0_i32_766 : BitVec 32 := 0#32
  let v1120 : BitVec 1 := Scalar.cmpi .eq c32_i32_765 c0_i32_766
  let c1_i32_767 : BitVec 32 := 1#32
  let v1121 : BitVec 32 := Scalar.select v1120 c1_i32_767 c32_i32_765
  let v1122 : BitVec 32 := Scalar.remsi v1119 v1121
  let c0_i32_769 : BitVec 32 := 0#32
  let v1124 : BitVec 1 := Scalar.cmpi .slt v1122 c0_i32_769
  let c0_i32_770 : BitVec 32 := 0#32
  let v1125 : BitVec 1 := Scalar.cmpi .slt v1121 c0_i32_770
  let v1126 : BitVec 1 := Scalar.xori v1124 v1125
  let c0_i32_768 : BitVec 32 := 0#32
  let v1123 : BitVec 1 := Scalar.cmpi .ne v1122 c0_i32_768
  let v1127 : BitVec 1 := Scalar.andi v1126 v1123
  let v1128 : BitVec 32 := Scalar.addi v1122 v1121
  let v1129 : BitVec 32 := Scalar.select v1127 v1128 v1122
  let c1_i32_772 : BitVec 32 := 1#32
  let v1130 : BitVec 32 := Scalar.muli v1129 c1_i32_772
  let v1131 : BitVec 32 := Scalar.addi c0_i32_773 v1130
  v1131.toNat
def k0_dev56 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_776 : BitVec 32 := 1#32
  let v1138 : BitVec 32 := Scalar.addi v2 c1_i32_776
  let c24_i32_777 : BitVec 32 := 24#32
  let v1139 : BitVec 32 := Scalar.addi v1138 c24_i32_777
  let c32_i32_778 : BitVec 32 := 32#32
  let c0_i32_779 : BitVec 32 := 0#32
  let v1140 : BitVec 1 := Scalar.cmpi .eq c32_i32_778 c0_i32_779
  let c1_i32_780 : BitVec 32 := 1#32
  let v1141 : BitVec 32 := Scalar.select v1140 c1_i32_780 c32_i32_778
  let v1142 : BitVec 32 := Scalar.remsi v1139 v1141
  let c0_i32_782 : BitVec 32 := 0#32
  let v1144 : BitVec 1 := Scalar.cmpi .slt v1142 c0_i32_782
  let c0_i32_783 : BitVec 32 := 0#32
  let v1145 : BitVec 1 := Scalar.cmpi .slt v1141 c0_i32_783
  let v1146 : BitVec 1 := Scalar.xori v1144 v1145
  let c0_i32_781 : BitVec 32 := 0#32
  let v1143 : BitVec 1 := Scalar.cmpi .ne v1142 c0_i32_781
  let v1147 : BitVec 1 := Scalar.andi v1146 v1143
  let v1148 : BitVec 32 := Scalar.addi v1142 v1141
  let v1149 : BitVec 32 := Scalar.select v1147 v1148 v1142
  let c1_i32_785 : BitVec 32 := 1#32
  let v1150 : BitVec 32 := Scalar.muli v1149 c1_i32_785
  let v1151 : BitVec 32 := Scalar.addi c0_i32_786 v1150
  v1151.toNat
def k0_dev57 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_789 : BitVec 32 := 1#32
  let v1158 : BitVec 32 := Scalar.addi v2 c1_i32_789
  let c25_i32_790 : BitVec 32 := 25#32
  let v1159 : BitVec 32 := Scalar.addi v1158 c25_i32_790
  let c32_i32_791 : BitVec 32 := 32#32
  let c0_i32_792 : BitVec 32 := 0#32
  let v1160 : BitVec 1 := Scalar.cmpi .eq c32_i32_791 c0_i32_792
  let c1_i32_793 : BitVec 32 := 1#32
  let v1161 : BitVec 32 := Scalar.select v1160 c1_i32_793 c32_i32_791
  let v1162 : BitVec 32 := Scalar.remsi v1159 v1161
  let c0_i32_795 : BitVec 32 := 0#32
  let v1164 : BitVec 1 := Scalar.cmpi .slt v1162 c0_i32_795
  let c0_i32_796 : BitVec 32 := 0#32
  let v1165 : BitVec 1 := Scalar.cmpi .slt v1161 c0_i32_796
  let v1166 : BitVec 1 := Scalar.xori v1164 v1165
  let c0_i32_794 : BitVec 32 := 0#32
  let v1163 : BitVec 1 := Scalar.cmpi .ne v1162 c0_i32_794
  let v1167 : BitVec 1 := Scalar.andi v1166 v1163
  let v1168 : BitVec 32 := Scalar.addi v1162 v1161
  let v1169 : BitVec 32 := Scalar.select v1167 v1168 v1162
  let c1_i32_798 : BitVec 32 := 1#32
  let v1170 : BitVec 32 := Scalar.muli v1169 c1_i32_798
  let v1171 : BitVec 32 := Scalar.addi c0_i32_799 v1170
  v1171.toNat
def k0_dev58 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_802 : BitVec 32 := 1#32
  let v1178 : BitVec 32 := Scalar.addi v2 c1_i32_802
  let c26_i32_803 : BitVec 32 := 26#32
  let v1179 : BitVec 32 := Scalar.addi v1178 c26_i32_803
  let c32_i32_804 : BitVec 32 := 32#32
  let c0_i32_805 : BitVec 32 := 0#32
  let v1180 : BitVec 1 := Scalar.cmpi .eq c32_i32_804 c0_i32_805
  let c1_i32_806 : BitVec 32 := 1#32
  let v1181 : BitVec 32 := Scalar.select v1180 c1_i32_806 c32_i32_804
  let v1182 : BitVec 32 := Scalar.remsi v1179 v1181
  let c0_i32_808 : BitVec 32 := 0#32
  let v1184 : BitVec 1 := Scalar.cmpi .slt v1182 c0_i32_808
  let c0_i32_809 : BitVec 32 := 0#32
  let v1185 : BitVec 1 := Scalar.cmpi .slt v1181 c0_i32_809
  let v1186 : BitVec 1 := Scalar.xori v1184 v1185
  let c0_i32_807 : BitVec 32 := 0#32
  let v1183 : BitVec 1 := Scalar.cmpi .ne v1182 c0_i32_807
  let v1187 : BitVec 1 := Scalar.andi v1186 v1183
  let v1188 : BitVec 32 := Scalar.addi v1182 v1181
  let v1189 : BitVec 32 := Scalar.select v1187 v1188 v1182
  let c1_i32_811 : BitVec 32 := 1#32
  let v1190 : BitVec 32 := Scalar.muli v1189 c1_i32_811
  let v1191 : BitVec 32 := Scalar.addi c0_i32_812 v1190
  v1191.toNat
def k0_dev59 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_815 : BitVec 32 := 1#32
  let v1198 : BitVec 32 := Scalar.addi v2 c1_i32_815
  let c27_i32_816 : BitVec 32 := 27#32
  let v1199 : BitVec 32 := Scalar.addi v1198 c27_i32_816
  let c32_i32_817 : BitVec 32 := 32#32
  let c0_i32_818 : BitVec 32 := 0#32
  let v1200 : BitVec 1 := Scalar.cmpi .eq c32_i32_817 c0_i32_818
  let c1_i32_819 : BitVec 32 := 1#32
  let v1201 : BitVec 32 := Scalar.select v1200 c1_i32_819 c32_i32_817
  let v1202 : BitVec 32 := Scalar.remsi v1199 v1201
  let c0_i32_821 : BitVec 32 := 0#32
  let v1204 : BitVec 1 := Scalar.cmpi .slt v1202 c0_i32_821
  let c0_i32_822 : BitVec 32 := 0#32
  let v1205 : BitVec 1 := Scalar.cmpi .slt v1201 c0_i32_822
  let v1206 : BitVec 1 := Scalar.xori v1204 v1205
  let c0_i32_820 : BitVec 32 := 0#32
  let v1203 : BitVec 1 := Scalar.cmpi .ne v1202 c0_i32_820
  let v1207 : BitVec 1 := Scalar.andi v1206 v1203
  let v1208 : BitVec 32 := Scalar.addi v1202 v1201
  let v1209 : BitVec 32 := Scalar.select v1207 v1208 v1202
  let c1_i32_824 : BitVec 32 := 1#32
  let v1210 : BitVec 32 := Scalar.muli v1209 c1_i32_824
  let v1211 : BitVec 32 := Scalar.addi c0_i32_825 v1210
  v1211.toNat
def k0_dev60 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_828 : BitVec 32 := 1#32
  let v1218 : BitVec 32 := Scalar.addi v2 c1_i32_828
  let c28_i32_829 : BitVec 32 := 28#32
  let v1219 : BitVec 32 := Scalar.addi v1218 c28_i32_829
  let c32_i32_830 : BitVec 32 := 32#32
  let c0_i32_831 : BitVec 32 := 0#32
  let v1220 : BitVec 1 := Scalar.cmpi .eq c32_i32_830 c0_i32_831
  let c1_i32_832 : BitVec 32 := 1#32
  let v1221 : BitVec 32 := Scalar.select v1220 c1_i32_832 c32_i32_830
  let v1222 : BitVec 32 := Scalar.remsi v1219 v1221
  let c0_i32_834 : BitVec 32 := 0#32
  let v1224 : BitVec 1 := Scalar.cmpi .slt v1222 c0_i32_834
  let c0_i32_835 : BitVec 32 := 0#32
  let v1225 : BitVec 1 := Scalar.cmpi .slt v1221 c0_i32_835
  let v1226 : BitVec 1 := Scalar.xori v1224 v1225
  let c0_i32_833 : BitVec 32 := 0#32
  let v1223 : BitVec 1 := Scalar.cmpi .ne v1222 c0_i32_833
  let v1227 : BitVec 1 := Scalar.andi v1226 v1223
  let v1228 : BitVec 32 := Scalar.addi v1222 v1221
  let v1229 : BitVec 32 := Scalar.select v1227 v1228 v1222
  let c1_i32_837 : BitVec 32 := 1#32
  let v1230 : BitVec 32 := Scalar.muli v1229 c1_i32_837
  let v1231 : BitVec 32 := Scalar.addi c0_i32_838 v1230
  v1231.toNat
def k0_dev61 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_841 : BitVec 32 := 1#32
  let v1238 : BitVec 32 := Scalar.addi v2 c1_i32_841
  let c29_i32_842 : BitVec 32 := 29#32
  let v1239 : BitVec 32 := Scalar.addi v1238 c29_i32_842
  let c32_i32_843 : BitVec 32 := 32#32
  let c0_i32_844 : BitVec 32 := 0#32
  let v1240 : BitVec 1 := Scalar.cmpi .eq c32_i32_843 c0_i32_844
  let c1_i32_845 : BitVec 32 := 1#32
  let v1241 : BitVec 32 := Scalar.select v1240 c1_i32_845 c32_i32_843
  let v1242 : BitVec 32 := Scalar.remsi v1239 v1241
  let c0_i32_847 : BitVec 32 := 0#32
  let v1244 : BitVec 1 := Scalar.cmpi .slt v1242 c0_i32_847
  let c0_i32_848 : BitVec 32 := 0#32
  let v1245 : BitVec 1 := Scalar.cmpi .slt v1241 c0_i32_848
  let v1246 : BitVec 1 := Scalar.xori v1244 v1245
  let c0_i32_846 : BitVec 32 := 0#32
  let v1243 : BitVec 1 := Scalar.cmpi .ne v1242 c0_i32_846
  let v1247 : BitVec 1 := Scalar.andi v1246 v1243
  let v1248 : BitVec 32 := Scalar.addi v1242 v1241
  let v1249 : BitVec 32 := Scalar.select v1247 v1248 v1242
  let c1_i32_850 : BitVec 32 := 1#32
  let v1250 : BitVec 32 := Scalar.muli v1249 c1_i32_850
  let v1251 : BitVec 32 := Scalar.addi c0_i32_851 v1250
  v1251.toNat
def k0_dev62 (d0 : Dev nD) : Nat :=
  let c0_i32_864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_854 : BitVec 32 := 1#32
  let v1258 : BitVec 32 := Scalar.addi v2 c1_i32_854
  let c30_i32_855 : BitVec 32 := 30#32
  let v1259 : BitVec 32 := Scalar.addi v1258 c30_i32_855
  let c32_i32_856 : BitVec 32 := 32#32
  let c0_i32_857 : BitVec 32 := 0#32
  let v1260 : BitVec 1 := Scalar.cmpi .eq c32_i32_856 c0_i32_857
  let c1_i32_858 : BitVec 32 := 1#32
  let v1261 : BitVec 32 := Scalar.select v1260 c1_i32_858 c32_i32_856
  let v1262 : BitVec 32 := Scalar.remsi v1259 v1261
  let c0_i32_860 : BitVec 32 := 0#32
  let v1264 : BitVec 1 := Scalar.cmpi .slt v1262 c0_i32_860
  let c0_i32_861 : BitVec 32 := 0#32
  let v1265 : BitVec 1 := Scalar.cmpi .slt v1261 c0_i32_861
  let v1266 : BitVec 1 := Scalar.xori v1264 v1265
  let c0_i32_859 : BitVec 32 := 0#32
  let v1263 : BitVec 1 := Scalar.cmpi .ne v1262 c0_i32_859
  let v1267 : BitVec 1 := Scalar.andi v1266 v1263
  let v1268 : BitVec 32 := Scalar.addi v1262 v1261
  let v1269 : BitVec 32 := Scalar.select v1267 v1268 v1262
  let c1_i32_863 : BitVec 32 := 1#32
  let v1270 : BitVec 32 := Scalar.muli v1269 c1_i32_863
  let v1271 : BitVec 32 := Scalar.addi c0_i32_864 v1270
  v1271.toNat
def k0_off3 (d0 : Dev nD) (c0_i32_868 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_867 : BitVec 32 := 1#32
  let v1278 : BitVec 32 := Scalar.addi v2 c1_i32_867
  let v1279 : BitVec 32 := Scalar.addi v1278 c0_i32_868
  let c32_i32_869 : BitVec 32 := 32#32
  let c0_i32_870 : BitVec 32 := 0#32
  let v1280 : BitVec 1 := Scalar.cmpi .eq c32_i32_869 c0_i32_870
  let c1_i32_871 : BitVec 32 := 1#32
  let v1281 : BitVec 32 := Scalar.select v1280 c1_i32_871 c32_i32_869
  let v1282 : BitVec 32 := Scalar.remsi v1279 v1281
  let c0_i32_873 : BitVec 32 := 0#32
  let v1284 : BitVec 1 := Scalar.cmpi .slt v1282 c0_i32_873
  let c0_i32_874 : BitVec 32 := 0#32
  let v1285 : BitVec 1 := Scalar.cmpi .slt v1281 c0_i32_874
  let v1286 : BitVec 1 := Scalar.xori v1284 v1285
  let c0_i32_872 : BitVec 32 := 0#32
  let v1283 : BitVec 1 := Scalar.cmpi .ne v1282 c0_i32_872
  let v1287 : BitVec 1 := Scalar.andi v1286 v1283
  let v1288 : BitVec 32 := Scalar.addi v1282 v1281
  let v1289 : BitVec 32 := Scalar.select v1287 v1288 v1282
  ![v1289.toNat]
def k0_off4 (d0 : Dev nD) (c0_i32_868 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_867 : BitVec 32 := 1#32
  let v1278 : BitVec 32 := Scalar.addi v2 c1_i32_867
  let v1279 : BitVec 32 := Scalar.addi v1278 c0_i32_868
  let c32_i32_869 : BitVec 32 := 32#32
  let c0_i32_870 : BitVec 32 := 0#32
  let v1280 : BitVec 1 := Scalar.cmpi .eq c32_i32_869 c0_i32_870
  let c1_i32_871 : BitVec 32 := 1#32
  let v1281 : BitVec 32 := Scalar.select v1280 c1_i32_871 c32_i32_869
  let v1282 : BitVec 32 := Scalar.remsi v1279 v1281
  let c0_i32_873 : BitVec 32 := 0#32
  let v1284 : BitVec 1 := Scalar.cmpi .slt v1282 c0_i32_873
  let c0_i32_874 : BitVec 32 := 0#32
  let v1285 : BitVec 1 := Scalar.cmpi .slt v1281 c0_i32_874
  let v1286 : BitVec 1 := Scalar.xori v1284 v1285
  let c0_i32_872 : BitVec 32 := 0#32
  let v1283 : BitVec 1 := Scalar.cmpi .ne v1282 c0_i32_872
  let v1287 : BitVec 1 := Scalar.andi v1286 v1283
  let v1288 : BitVec 32 := Scalar.addi v1282 v1281
  let v1289 : BitVec 32 := Scalar.select v1287 v1288 v1282
  let c0_i32_878 : BitVec 32 := 0#32
  let c0_i32_879 : BitVec 32 := 0#32
  ![v1289.toNat, 0, 0]
abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .i32⟩
  | .hbm, ⟨2, _⟩ => ⟨S_, .f32⟩
  | .hbm, ⟨3, _⟩ => ⟨S_, .i32⟩
  | .hbm, ⟨4, _⟩ => ⟨S1024, .f32⟩
  | .hbm, ⟨5, _⟩ => ⟨S1024, .i32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S2x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Cells.lean ====
/-
# The semaphores of the exchange and what each one hands over

Thirty-two devices each hold a block of rows. Every device reduces its block to a small table of two rows
(`loc c`: the largest value of each column and the row where it is first reached) and sends that table to the
thirty-one others, into the slot of the receive buffer that carries the sender's number.

Three families of semaphore are used between devices, each for one round only.

* The entry barrier. Device `c` signals the thirty-one others once each and waits for thirty-one units. The unit
  that device `tgt c i` pays to `c` hands over slot `c` of its receive buffer, so that `c` may copy into it.
* The receive semaphore `s` of device `c`, for `s ≠ c`: the copy from device `s` lands on it, with slot `s` of
  `c`'s receive buffer holding `loc s`.
* The send semaphore `j` of device `c`: its `j`-th copy, to `tgt c j`, lands on it and gives back the piece of
  `c`'s read share that the copy held.

All statements here take the tables `loc` as a parameter and any float values.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.ValueLayout
public import Idealize.ShloMosaic.Lib.Tactic

@[expose] public section

noncomputable section

namespace Cert.Exchange

open Cert.KernelIdeal Cert.KernelIdeal.Gen

open Idealize.ShloMosaic
open Idealize.ShloMosaic.ValueIdx (ix1 ix2 ix3)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the window's protocol, the exchange's, and counters for copies inside a device -/

abbrev UB : Type := URounds (GSem nD τ sig) ℕ
abbrev UU : Type := UR sig nD τ × (UB × Counters)

local notation "𝕄" => MT nD τ sig Unit (Elt F) ℕ UU ℕ

abbrev EP : Emb (UR sig nD τ) (MT nD τ sig Unit (Elt F) ℕ UU ℕ) := embL

/-- Where the exchange's protocol lives. -/
def EX : Emb UB (MT nD τ sig Unit (Elt F) ℕ UU ℕ) :=
  (Emb.inl : Emb UB (UB × Counters)).trans embR

instance EX_landsIn : (EX : Emb UB 𝕄).LandsIn (upEmb : UEmb _ 𝕄) := by unfold EX; infer_instance

/-! ## Who is who -/

set_option backward.proofsInPublic true in
/-- The device `1 + j` places after `c` around the ring of thirty-two. -/
def tgt (c : Dev nD) (j : ℕ) : Dev nD := ⟨(c.val + 1 + j) % 32, Nat.mod_lt _ (by decide)⟩

theorem tgt_val (c : Dev nD) (j : ℕ) : (tgt c j).val = (c.val + 1 + j) % 32 := rfl

theorem tgt_tgt (c : Dev nD) {j : ℕ} (hj : j < 31) : tgt (tgt c j) (30 - j) = c := by
  have := c.isLt
  simp only [nD] at this
  apply Fin.ext; simp only [tgt_val]; omega

theorem tgt_ne (c : Dev nD) {j : ℕ} (hj : j < 31) : tgt c j ≠ c := by
  have := c.isLt
  simp only [nD] at this
  intro h; have := congrArg Fin.val h; simp only [tgt_val] at this; omega

theorem tgt_inj (c : Dev nD) {i j : ℕ} (hi : i < 31) (hj : j < 31) (h : tgt c i = tgt c j) : i = j := by
  have := c.isLt
  simp only [nD] at this
  have := congrArg Fin.val h; simp only [tgt_val] at this; omega

/-- Every other device is some number of places ahead. -/
theorem exists_tgt {c s : Dev nD} (h : s ≠ c) : ∃ j, j < 31 ∧ tgt c j = s := by
  have h1 := c.isLt
  have h2 := s.isLt
  simp only [nD] at h1 h2
  have h3 : s.val ≠ c.val := fun e => h (Fin.ext e)
  exact ⟨(s.val + 31 - c.val) % 32, by omega, Fin.ext (by simp only [tgt_val]; omega)⟩

/-! ## The buffers and the semaphores -/

abbrev locM : Memref sig .tc .vmem S2x1024 .f32 := Memref.whole cc0_scratch0
abbrev xbufM : Memref sig .tc .vmem S2x256x1024 .f32 := Memref.whole cc0_scratch1
abbrev rcvM : Memref sig .tc .vmem S32x2x1024 .f32 := Memref.whole cc0_scratch2
abbrev outM : Memref sig .tc .vmem S2x1024 .f32 := Memref.whole cc0_stg0_0
abbrev argM : Memref sig .tc .hbm S2048x1024 .f32 := Memref.whole main_arg0

theorem slot_inb (s : Dev nD) : ∀ a, (![s.val, 0, 0] : Fin 3 → ℕ) a + S1x2x1024.size a ≤ S32x2x1024.size a := by
  revert s; decide

/-- Slot `s` of the receive buffer, as a table of two rows. -/
abbrev slotM (s : Dev nD) : Memref sig .tc .vmem S2x1024 .f32 :=
  (rcvM.slice (Rect.unit (s := S32x2x1024) ![s.val, 0, 0] S1x2x1024.size (slot_inb s)) (fun _ => rfl)).squeeze S2x1024
    squeezes_S1x2x1024_S2x1024

/-- The barrier semaphore of the launch; -/
abbrev barS : Sem sig := (SemArray.scalar (sig.barrier 0 rfl) : Sems sig S_).sem
set_option backward.proofsInPublic true in
/-- the DMA semaphores by number: one for the result's window, two for the copies of `x`, thirty-one for the sends,
    thirty-two for the receives. -/
def dsem (n : ℕ) : DmaSem sig := ⟨n % 66, Nat.mod_lt _ (by decide)⟩

theorem dsem_val {n : ℕ} (h : n < 66) : (dsem n).val = n := Nat.mod_eq_of_lt h

abbrev barCell (c : Dev nD) : GSem nD τ sig := ((c : Thread nD τ), .reg barS)
abbrev sendCell (c : Dev nD) (j : ℕ) : GSem nD τ sig := ((c : Thread nD τ), .dma (dsem (j + 3)))
abbrev recvCell (c s : Dev nD) : GSem nD τ sig := ((c : Thread nD τ), .dma (dsem (s.val + 34)))

/-- The credit of one copied table. -/
abbrev N : ℕ := locM.view.dmaCredit
theorem N_pos : 0 < N := View.dmaCredit_pos _ (by decide)

/-! ## What the buffers hold -/

/-- A device's table. -/
abbrev Tab (F : FTy → Type) : Type := (cc0_scratch0 : Ref sig .tc).ty.Contents (Elt F)

variable (loc : Dev nD → Tab F)

/-- The receive buffer once every slot holds its sender's table; the same on every device. -/
def gbuf : (cc0_scratch2 : Ref sig .tc).ty.Contents (Elt F) := fun i => loc (i 0) (ix2 (i 1) (i 2))

/-- Slot `s` of device `c`'s receive buffer, with contents `f`. -/
def slotPts (c s : Dev nD) (f : Buf (Elt F) ((slotM s).view.loc (c : Thread nD τ))) : sProp 𝕄 :=
  (slotM s).view.loc (c : Thread nD τ) ↦[(slotM s).view.set]{fullShare} f

/-- Piece `j` of the read share of device `c`'s own table, lent to its `j`-th copy. -/
def locTok (c : Dev nD) (j : ℕ) : sProp 𝕄 :=
  locM.view.loc (c : Thread nD τ) ↦[locM.view.set]{Transfers.shareTokN fullShare j} loc c

omit [FloatOps F] in
instance slotPts_storable (c s : Dev nD) (f) : BI.Storable (upEmb : UEmb _ 𝕄) (slotPts (F := F) c s f) := by
  unfold slotPts; infer_instance
omit [FloatOps F] in
instance locTok_storable (c : Dev nD) (j : ℕ) : BI.Storable (upEmb : UEmb _ 𝕄) (locTok (F := F) loc c j) := by
  unfold locTok; infer_instance

omit [FloatOps F] in
/-- Entry `(a, b)` of slot `s` is entry `(s, a, b)` of the receive buffer. -/
theorem slot_emb (s : Dev nD) (x : Fin 2) (y : Fin 1024) :
    (slotM s).view.emb (ix2 x y) = (ix3 s x y : S32x2x1024.Idx) := by
  have h : (slotM s).view.emb (ix2 x y) = (Rect.unit (s := S32x2x1024) ![s.val, 0, 0] S1x2x1024.size (slot_inb s)).emb
      (Shape.reshapeEquiv squeezes_S1x2x1024_S2x1024.numel_eq (ix2 x y)) := rfl
  rw [h, ValueIdx.reshapeEquiv_ix2_1ab squeezes_S1x2x1024_S2x1024.numel_eq x y]
  funext a
  fin_cases a <;> apply Fin.ext <;> simp [Rect.emb, LoadRect.idx, Rect.unit, ix3]

theorem tab_ix (i : S2x1024.Idx) : ∃ (x : Fin 2) (y : Fin 1024), i = ix2 x y :=
  ⟨i 0, i 1, by funext a; fin_cases a <;> rfl⟩

omit [FloatOps F] in
/-- Device `s`'s table copied into slot `s` of any receive buffer makes the slot's final contents. -/
theorem slot_landed (c s : Dev nD) (fd : Buf (Elt F) ((slotM s).view.loc (c : Thread nD τ))) :
    ((slotM s).view.loc (c : Thread nD τ) ↦[(slotM s).view.set]{fullShare}
        (slotM s).view.write (Elt F) fd (locM.view.read (Elt F) (loc s)) Finset.univ : sProp 𝕄)
      = slotPts c s (gbuf loc) := by
  unfold slotPts
  refine pointsTo_congr fun i hi => ?_
  obtain ⟨j, -, rfl⟩ := Finset.mem_map.mp hi
  rw [View.write_emb_of_mem _ _ (Finset.mem_univ j)]
  obtain ⟨x, y, rfl⟩ := tab_ix j
  exact (congrArg (gbuf loc) (slot_emb s x y)).symm

/-! ## The schedule -/

/-- What the unit numbered `i` of device `c`'s barrier hands over: slot `c` of the payer's receive buffer. -/
def barPay (c : Dev nD) (i : ℕ) : sProp 𝕄 := iprop(∃ f, slotPts (tgt c i) c f)

omit [FloatOps F] in
instance barPay_storable (c : Dev nD) (i : ℕ) : BI.Storable (upEmb : UEmb _ 𝕄) (barPay (F := F) c i) := by
  unfold barPay; infer_instance

set_option backward.proofsInPublic true in
/-- The sender whose copy lands on DMA semaphore `q`, for a receive semaphore. -/
def srcOf (q : DmaSem sig) : Dev nD := ⟨(q.val - 34) % 32, Nat.mod_lt _ (by decide)⟩

theorem srcOf_dsem (s : Dev nD) : srcOf (dsem (s.val + 34)) = s := by revert s; decide

/-- Round 0 only. The barrier takes thirty-one units; a receive semaphore one copy, except the one that carries
    the device's own number; a send semaphore one copy; the three others nothing. -/
def sched : Rounds.Schedule (GSem nD τ sig) ℕ 𝕄 where
  duties g r :=
    if r = 0 ∧ g.1.2 = .tc then
      match g.2 with
      | .reg s => if s = barS then Finset.range 31 else ∅
      | .dma q => if q.val < 3 ∨ q.val = 34 + g.1.1.val then ∅ else {0}
    else ∅
  unitless _ := False
  amount g _ _ := match g.2 with | .reg _ => 1 | .dma _ => N
  payload g _ d :=
    match g.2 with
    | .reg _ => barPay g.1.1 d
    | .dma q => if q.val < 34 then locTok loc g.1.1 (q.val - 3) else slotPts g.1.1 (srcOf q) (gbuf loc)
  amount_pos g _ _ _ := by
    split
    · exact Nat.one_pos
    · exact N_pos

omit [FloatOps F] in
instance sched_storable (g : GSem nD τ sig) (r d : ℕ) :
    BI.Storable (upEmb : UEmb _ 𝕄) ((sched (F := F) loc).payload g r d) := by
  dsimp only [sched]
  (repeat' split) <;> infer_instance

section Sched
variable (c s : Dev nD)

omit [FloatOps F] in
theorem duties_bar : (sched (F := F) loc).duties (barCell c) 0 = Finset.range 31 := by
  dsimp only [sched]; rw [if_pos ⟨rfl, rfl⟩, if_pos rfl]
omit [FloatOps F] in
theorem duties_send {j : ℕ} (hj : j < 31) : (sched (F := F) loc).duties (sendCell c j) 0 = {0} := by
  have := c.isLt
  dsimp only [sched]; rw [if_pos ⟨rfl, rfl⟩, if_neg]
  rw [dsem_val (by omega)]; show ¬ (j + 3 < 3 ∨ j + 3 = 34 + c.val); omega
omit [FloatOps F] in
theorem duties_recv (h : s ≠ c) : (sched (F := F) loc).duties (recvCell c s) 0 = {0} := by
  have h1 := c.isLt
  have h2 := s.isLt
  simp only [nD] at h1 h2
  have h3 : s.val ≠ c.val := fun e => h (Fin.ext e)
  dsimp only [sched]; rw [if_pos ⟨rfl, rfl⟩, if_neg]
  rw [dsem_val (by omega)]; show ¬ (s.val + 34 < 3 ∨ s.val + 34 = 34 + c.val); omega
omit [FloatOps F] in
theorem duties_own : (sched (F := F) loc).duties (recvCell c c) 0 = ∅ := by
  have h1 := c.isLt
  simp only [nD] at h1
  dsimp only [sched]; rw [if_pos ⟨rfl, rfl⟩, if_pos]
  rw [dsem_val (by omega)]; right; show c.val + 34 = 34 + c.val; omega
omit [FloatOps F] in
theorem duties_later (g : GSem nD τ sig) : ∀ r, 1 ≤ r → (sched (F := F) loc).duties g r = ∅ :=
  fun r hr => by dsimp only [sched]; rw [if_neg fun h => by omega]
omit [FloatOps F] in
theorem duties_own_all : ∀ r, 0 ≤ r → (sched (F := F) loc).duties (recvCell c c) r = ∅ := fun r _ => by
  rcases Nat.eq_zero_or_pos r with rfl | h
  · exact duties_own loc c
  · exact duties_later loc _ r h

omit [FloatOps F] in
theorem amount_bar (d : ℕ) : (sched (F := F) loc).amount (barCell c) 0 d = 1 := rfl
omit [FloatOps F] in
theorem amount_dma (q : DmaSem sig) (d : ℕ) : (sched (F := F) loc).amount ((c : Thread nD τ), .dma q) 0 d = N := rfl

omit [FloatOps F] in
theorem expect_bar : (sched (F := F) loc).expect (barCell c) 0 = 31 := by
  unfold Schedule.expect Schedule.amountOf
  rw [duties_bar, Finset.sum_congr rfl fun d _ => amount_bar loc c d, Finset.sum_const, Finset.card_range, smul_eq_mul]
omit [FloatOps F] in
theorem expect_send {j : ℕ} (hj : j < 31) : (sched (F := F) loc).expect (sendCell c j) 0 = N := by
  unfold Schedule.expect Schedule.amountOf; rw [duties_send loc c hj, Finset.sum_singleton, amount_dma]
omit [FloatOps F] in
theorem expect_recv (h : s ≠ c) : (sched (F := F) loc).expect (recvCell c s) 0 = N := by
  unfold Schedule.expect Schedule.amountOf; rw [duties_recv loc c s h, Finset.sum_singleton, amount_dma]

omit [FloatOps F] in
theorem payload_bar (d : ℕ) : (sched (F := F) loc).payload (barCell c) 0 d = barPay c d := rfl
omit [FloatOps F] in
theorem payload_send {j : ℕ} (hj : j < 31) (d : ℕ) : (sched (F := F) loc).payload (sendCell c j) 0 d = locTok loc c j := by
  dsimp only [sched]; rw [if_pos (by rw [dsem_val (by omega)]; omega), dsem_val (by omega), Nat.add_sub_cancel]
omit [FloatOps F] in
theorem payload_recv (d : ℕ) : (sched (F := F) loc).payload (recvCell c s) 0 d = slotPts c s (gbuf loc) := by
  have h2 := s.isLt
  simp only [nD] at h2
  dsimp only [sched]; rw [if_neg (by rw [dsem_val (by omega)]; omega), srcOf_dsem]

omit [FloatOps F] in
/-- The barrier's whole round: slot `c` of every other device. -/
theorem rest_bar : bigSep ((sched (F := F) loc).duties (barCell c) 0 \ ∅) (fun d => (sched (F := F) loc).payload (barCell c) 0 d)
    = bigSep (Finset.range 31) (fun i => barPay c i) := by
  rw [Finset.sdiff_empty, duties_bar]; rfl
omit [FloatOps F] in
theorem rest_send {j : ℕ} (hj : j < 31) : bigSep ((sched (F := F) loc).duties (sendCell c j) 0 \ ∅)
    (fun d => (sched (F := F) loc).payload (sendCell c j) 0 d) = locTok loc c j := by
  rw [Finset.sdiff_empty, duties_send loc c hj, bigSep_singleton, payload_send loc c hj]
omit [FloatOps F] in
theorem rest_recv (h : s ≠ c) : bigSep ((sched (F := F) loc).duties (recvCell c s) 0 \ ∅)
    (fun d => (sched (F := F) loc).payload (recvCell c s) 0 d) = slotPts c s (gbuf loc) := by
  rw [Finset.sdiff_empty, duties_recv loc c s h, bigSep_singleton, payload_recv]

end Sched

/-! ## What each device owes, and the levels -/

/-- The copies numbered `j` and up, still to be sent; -/
def OR (c : Dev nD) (j : ℕ) : CellTallies nD τ sig Unit := ∑ i ∈ Finset.Ico j 31, tallyAt (recvCell (tgt c i) c) () N
/-- the barrier signals numbered `j` and up, still to be given; -/
def OB (c : Dev nD) (j : ℕ) : CellTallies nD τ sig Unit := ∑ i ∈ Finset.Ico j 31, tallyAt (barCell (tgt c i)) () 1
/-- everything device `c` owes at launch. -/
def O₀ (c : Dev nD) : CellTallies nD τ sig Unit := OR c 0 + OB c 0

theorem Ico_cons {j : ℕ} (hj : j < 31) : Finset.Ico j 31 = insert j (Finset.Ico (j + 1) 31) := by
  ext x; simp only [Finset.mem_Ico, Finset.mem_insert]; omega

theorem OR_succ (c : Dev nD) {j : ℕ} (hj : j < 31) : OR c j = OR c (j + 1) + tallyAt (recvCell (tgt c j) c) () N := by
  unfold OR; rw [Ico_cons hj, Finset.sum_insert (by simp), add_comm]
theorem OB_succ (c : Dev nD) {j : ℕ} (hj : j < 31) : OB c j = OB c (j + 1) + tallyAt (barCell (tgt c j)) () 1 := by
  unfold OB; rw [Ico_cons hj, Finset.sum_insert (by simp), add_comm]
theorem OR_end (c : Dev nD) : OR c 31 = 0 := by unfold OR; rw [Finset.Ico_self, Finset.sum_empty]
theorem OB_end (c : Dev nD) : OB c 31 = 0 := by unfold OB; rw [Finset.Ico_self, Finset.sum_empty]

def L (g : GSem nD τ sig) : Finset Unit := if g.1.2 = .tc then {()} else ∅
/-- Barrier cells at 1, receive cells at 2, every other cell at 0. -/
def lv (g : GSem nD τ sig) (_ : Unit) : ℕ := match g.2 with | .reg _ => 1 | .dma q => if 34 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c s : Dev nD) (u : Unit) : lv (recvCell c s) u = 2 := by
  have h2 := s.isLt
  simp only [nD] at h2
  dsimp only [lv]; rw [if_pos (by rw [dsem_val (by omega)]; omega)]

theorem OR_pos {c : Dev nD} {j : ℕ} {g : GSem nD τ sig} {u : Unit} (h : 0 < OR c j g u) : ∃ i, g = recvCell (tgt c i) c := by
  by_contra hn
  simp only [not_exists] at hn
  refine Nat.lt_irrefl 0 (h.trans_eq ?_)
  unfold OR
  rw [Finset.sum_apply, Finsupp.finset_sum_apply]
  exact Finset.sum_eq_zero fun i _ => by rw [tallyAt_apply, if_neg (fun h' => hn i h'.1)]
theorem OB_pos {c : Dev nD} {j : ℕ} {g : GSem nD τ sig} {u : Unit} (h : 0 < OB c j g u) : ∃ i, g = barCell (tgt c i) := by
  by_contra hn
  simp only [not_exists] at hn
  refine Nat.lt_irrefl 0 (h.trans_eq ?_)
  unfold OB
  rw [Finset.sum_apply, Finsupp.finset_sum_apply]
  exact Finset.sum_eq_zero fun i _ => by rw [tallyAt_apply, if_neg (fun h' => hn i h'.1)]

/-- What is owed lies on barrier and receive cells of device cores, at levels 1 and 2. -/
theorem owed_level {c : Dev nD} {i j : ℕ} {g : GSem nD τ sig} {u : Unit} (h : 0 < (OR c i + OB c j) g u) :
    u ∈ L g ∧ 1 ≤ lv g u := by
  rw [Pi.add_apply, Finsupp.add_apply] at h
  have h' : 0 < OR c i g u ∨ 0 < OB c j g u := by omega
  rcases h' with h | h
  · obtain ⟨k, rfl⟩ := OR_pos h
    exact ⟨by rw [L_tc]; exact Finset.mem_singleton_self _, by rw [lv_recv]; decide⟩
  · obtain ⟨k, rfl⟩ := OB_pos h
    exact ⟨by rw [L_tc]; exact Finset.mem_singleton_self _, le_rfl⟩

omit [FloatOps F] in
/-- A wait on a semaphore of level 0 may happen whatever signals and copies are still owed; -/
theorem mayWait_low (c : Dev nD) (q : DmaSem sig) (hq : q.val < 34) (i j : ℕ) :
    (levAts L lv : sProp 𝕄) ⊢ MayWait (c : Thread nD τ) (.dma q) () (OR c i + OB c j) :=
  MayOwe.of_cut (L := L) (lev := lv) 0
    (fun p hp => by rw [Finset.mem_singleton.mp hp, L_tc]; exact Finset.mem_singleton_self _)
    (fun g u hg => (owed_level hg).1)
    (fun p hp => by rw [Finset.mem_singleton.mp hp]; dsimp only [lv]; rw [if_neg (by omega)])
    (fun g u hg => (owed_level hg).2)

omit [FloatOps F] in
/-- the barrier wait, once every signal is given. -/
theorem mayWait_bar (c : Dev nD) : (levAts L lv : sProp 𝕄) ⊢ MayWait (c : Thread nD τ) (.reg barS) () (OR c 0) :=
  MayOwe.of_cut (L := L) (lev := lv) 1
    (fun p hp => by rw [Finset.mem_singleton.mp hp, L_tc]; exact Finset.mem_singleton_self _)
    (fun g u hg => by obtain ⟨k, rfl⟩ := OR_pos hg; rw [L_tc]; exact Finset.mem_singleton_self _)
    (fun p hp => by rw [Finset.mem_singleton.mp hp]; exact le_rfl)
    (fun g u hg => by obtain ⟨k, rfl⟩ := OR_pos hg; rw [lv_recv]; decide)

end Cert.Exchange

end
-- ==== Proof.Steps.lean ====
/-
# One step of the exchange at a time

What a device holds is counted by how many of the thirty-one signals, sends or waits of a phase are done. Each
lemma here takes one operation of the program: from the state before it, with anything else `R` beside, it is
enough to run the rest of the program from the state after it.
-/
module

public import proofs.«01_k».proof.Proof.Cells
public import Idealize.SL.BI.BigOpNat

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (loc : Dev nD → Tab F) (K : Dev nD → ℕ → ℕ)

/-! ## The shared records: every cell's invariant, every cell in round 0 -/

/-- The cells of device `c` by number: the barrier, the thirty-one sends, the thirty-two receives. -/
def kcell (c : Dev nD) : ℕ → GSem nD τ sig
  | 0 => barCell c
  | k + 1 => ((c : Thread nD τ), .dma (dsem (k + 3)))

/-- What every device may use at any time. -/
def records : sProp 𝕄 :=
  iprop((bigSep Finset.univ fun c : Dev nD => bigSep (Finset.range 64) fun k => cellInv EX (sched loc) (K c k) (kcell c k))
    ∗ (bigSep Finset.univ fun c : Dev nD => bigSep (Finset.range 64) fun k => reached EX (kcell c k) 0)
    ∗ (levAts L lv : sProp 𝕄))

instance records_persistent : BI.Persistent (records loc K) := by unfold records; infer_instance

omit [FloatOps F] in
theorem records_inv (c : Dev nD) {k : ℕ} (hk : k < 64) : records loc K ⊢ cellInv EX (sched loc) (K c k) (kcell c k) := by
  unfold records
  exact sep_elim_left.trans ((bigSep_elim (Finset.mem_univ c)).trans (bigSep_elim (Finset.mem_range.mpr hk)))
omit [FloatOps F] in
theorem records_reached (c : Dev nD) {k : ℕ} (hk : k < 64) : records loc K ⊢ reached EX (kcell c k) 0 := by
  unfold records
  exact sep_elim_right.trans (sep_elim_left.trans ((bigSep_elim (Finset.mem_univ c)).trans (bigSep_elim (Finset.mem_range.mpr hk))))
omit [FloatOps F] in
theorem records_bar (c : Dev nD) : records loc K ⊢ MayWait (c : Thread nD τ) (.reg barS) () (OR c 0) := by
  unfold records
  exact sep_elim_right.trans (sep_elim_right.trans (mayWait_bar c))
omit [FloatOps F] in
theorem records_low (c : Dev nD) (q : DmaSem sig) (hq : q.val < 34) (i j : ℕ) :
    records loc K ⊢ MayWait (c : Thread nD τ) (.dma q) () (OR c i + OB c j) := by
  unfold records
  exact sep_elim_right.trans (sep_elim_right.trans (mayWait_low c q hq i j))

omit [FloatOps F] in
theorem inv_send (c : Dev nD) {j : ℕ} (hj : j < 31) :
    records loc K ⊢ cellInv EX (sched loc) (K c (j + 1)) (sendCell c j) := records_inv loc K c (k := j + 1) (by omega)
omit [FloatOps F] in
theorem inv_recv (c s : Dev nD) : records loc K ⊢ cellInv EX (sched loc) (K c (s.val + 32)) (recvCell c s) := by
  have h2 := s.isLt
  simp only [nD] at h2
  exact records_inv loc K c (k := s.val + 32) (by omega)
omit [FloatOps F] in
theorem reached_send (c : Dev nD) {j : ℕ} (hj : j < 31) : records loc K ⊢ reached EX (sendCell c j) 0 :=
  records_reached loc K c (k := j + 1) (by omega)
omit [FloatOps F] in
theorem reached_recv (c s : Dev nD) : records loc K ⊢ reached EX (recvCell c s) 0 := by
  have h2 := s.isLt
  simp only [nD] at h2
  exact records_reached loc K c (k := s.val + 32) (by omega)

/-! ## The phases -/

/-- `j` barrier signals given: what is still owed, and for each signal to come its token and the slot it hands over. -/
def SIG (c : Dev nD) (j : ℕ) : sProp 𝕄 :=
  iprop((∃ W, owes (c : Thread nD τ) (OR c 0 + OB c j) W)
    ∗ bigSep (Finset.Ico j 31) fun i => iprop(dutyTok EX (barCell (tgt c i)) 0 (30 - i) ∗ ∃ f, slotPts c (tgt c i) f))

/-- `j` copies sent: for each copy to come its two tokens, the share of the table it reads and the slot it fills; for
    each one gone, the credit to wait for it. -/
def SND (c : Dev nD) (j : ℕ) : sProp 𝕄 :=
  iprop((∃ W, owes (c : Thread nD τ) (OR c j) W)
    ∗ (bigSep (Finset.Ico j 31) fun i => iprop(dutyTok EX (sendCell c i) 0 0 ∗ dutyTok EX (recvCell (tgt c i) c) 0 0
        ∗ locTok loc c i ∗ ∃ f, slotPts (tgt c i) c f))
    ∗ bigSep (Finset.Ico 0 j) fun i => cred (tallyAt (sendCell c i) () N))

/-- `j` copies received: for each one to come its credit and place in the round; for each one landed, the semaphore
    at zero and the slot filled. -/
def RCV (c : Dev nD) (j : ℕ) : sProp 𝕄 :=
  iprop((∃ W, owes (c : Thread nD τ) 0 W)
    ∗ (bigSep (Finset.Ico j 31) fun i => iprop(cred (tallyAt (recvCell c (tgt c i)) () N) ∗ atPos EX (recvCell c (tgt c i)) 0 ∅ 0))
    ∗ bigSep (Finset.Ico 0 j) fun i => iprop(semVal (recvCell c (tgt c i)) 0 ∗ slotPts c (tgt c i) (gbuf loc)))

/-- `j` sends waited for: for each one to come its credit and place in the round; for each one done, the semaphore at
    zero and the share of the table it read. -/
def SWT (c : Dev nD) (j : ℕ) : sProp 𝕄 :=
  iprop((∃ W, owes (c : Thread nD τ) 0 W)
    ∗ (bigSep (Finset.Ico j 31) fun i => iprop(cred (tallyAt (sendCell c i) () N) ∗ atPos EX (sendCell c i) 0 ∅ 0))
    ∗ bigSep (Finset.Ico 0 j) fun i => iprop(semVal (sendCell c i) 0 ∗ locTok loc c i))

/-! ## The steps -/

section Steps

variable {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

/-- The weakest precondition on device `c`'s core. -/
local notation "run" c => wp frame (wpE (defs₀ (F := F)) 𝒱₀ ((c : Dev nD) : Thread nD τ) none) Set.univ

/-- One barrier signal, to the device `1 + j` places ahead. -/
theorem step_signal (c n : Dev nD) (j : ℕ) {a : ℤ} (hj : j < 31) (hn : n = tgt c j) (ha : a = (1 : ℕ))
    (h : iprop(records loc K ∗ SIG c (j + 1) ∗ R) ⊢ (run c) (k ⟨⟩) Q) :
    iprop(records loc K ∗ SIG c j ∗ R) ⊢ (run c) (.op (.semSignal (Dev.tc n) barS a) k) Q := by
  subst hn ha
  unfold SIG at h ⊢
  rw [bigSep_Ico_succ_bot hj]
  iintro ⟨#Hr, ⟨⟨%W, Ho⟩, ⟨Ht, Hs⟩, Hrest⟩, HR⟩
  iapply (Rounds.wp_signal 𝒱₀ EX (sched loc) (c : Thread nD τ) none (dst := (tgt c j : Thread nD τ)) (κ := K (tgt c j) 0)
      (d := 30 - j) (r := 0) (by rw [duties_bar]; exact Finset.mem_range.mpr (by omega)) (amount_bar loc (tgt c j) _) ()
      (OR c 0 + OB c (j + 1)) (show OR c 0 + OB c j = OR c 0 + OB c (j + 1) + tallyAt (barCell (tgt c j)) () 1 by rw [OB_succ c hj, add_assoc])) $$ [Ho Ht Hs]
  · isplitr; · iapply (records_inv loc K (tgt c j) (k := 0) (by decide)); iexact Hr
    isplitl [Ho]; · iexact Ho
    isplitl [Ht]; · iexact Ht
    isplitl [Hs]
    · rw [payload_bar]; unfold barPay; rw [tgt_tgt c hj]; iexact Hs
    iapply (records_reached loc K (tgt c j) (k := 0) (by decide)); iexact Hr
  iintro Ho
  iapply h
  isplitr; · iexact Hr
  isplitr [HR]
  · isplitl [Ho]; · iexists W; iexact Ho
    iexact Hrest
  iexact HR

/-- The wait for the thirty-one units of the barrier: slot `c` of every other device's receive buffer comes with it. -/
theorem step_barrier (c : Dev nD) {a : ℤ} (ha : a = (31 : ℕ))
    (h : iprop(records loc K ∗ ((∃ W, owes (c : Thread nD τ) (OR c 0) W) ∗ semVal (barCell c) 0
          ∗ bigSep (Finset.range 31) fun i => barPay c i) ∗ R) ⊢ (run c) (k ⟨⟩) Q) :
    iprop(records loc K ∗ (SIG c 31 ∗ cred (tallyAt (barCell c) () 31) ∗ atPos EX (barCell c) 0 ∅ 0) ∗ R)
      ⊢ (run c) (.op (.semWait barS a) k) Q := by
  subst ha
  unfold SIG
  rw [OB_end, add_zero]
  iintro ⟨#Hr, ⟨⟨⟨%W, Ho⟩, -⟩, Hc, Hat⟩, HR⟩
  iapply (Rounds.wp_wait_rest_token 𝒱₀ EX (sched loc) (c : Thread nD τ) none (κ := K c 0)
      (wpE_semWait_eq 𝒱₀ (c : Thread nD τ) none Set.univ) (Set.mem_univ _) () (O := OR c 0) (W := W) (R := 0) (m := 0) (T := ∅)
      (by rw [expect_bar])) $$ [Hc Ho Hat]
  · isplitr; · iapply (records_inv loc K c (k := 0) (by decide)); iexact Hr
    isplitl [Hc]; · iexact Hc
    isplitl [Ho]; · iexact Ho
    isplitr; · iapply (records_bar loc K c); iexact Hr
    iexact Hat
  iintro ⟨Ho, Hat, -, Hpay⟩
  ihave Hp := (Entails.of_eq (rest_bar loc c)) $$ Hpay
  imod (Rounds.cell_close EX (sched loc) (Set.mem_univ (K c 0)) (fun h => h) (R := 0 + 1) (duties_later loc (barCell c))) $$ [Hat] with Hz
  · isplitr; · iapply (records_inv loc K c (k := 0) (by decide)); iexact Hr
    iexact Hat
  iapply h
  isplitr; · iexact Hr
  isplitr [HR]
  · isplitl [Ho]; · iexists _; iexact Ho
    isplitl [Hz]; · iexact Hz
    iexact Hp
  iexact HR

/-- One copy of the table, into slot `c` of the device `1 + j` places ahead. -/
theorem step_send (c n : Dev nD) (j : ℕ) (hj : j < 31) (hn : n = tgt c j)
    {M : Memref sig .tc .vmem S2x1024 .f32} {sS sR : DmaSem sig} (hM : M = slotM c) (hS : sS = dsem (j + 3)) (hR : sR = dsem (c.val + 34))
    {hsc : (M : Memref sig (Dev.tc n : Thread nD τ).2.kind .vmem S2x1024 .f32).view.ref.isScScratch = false}
    {hsrc : locM.view.WordExact} {hdst : M.view.WordExact}
    {hsem : DmaTarget.Typed .vmem (.dma sR) (.remote (Dev.tc n : Thread nD τ) (M : Memref sig (Dev.tc n : Thread nD τ).2.kind .vmem S2x1024 .f32) (.dma sS) hsc)}
    (h : iprop(records loc K ∗ SND loc c (j + 1) ∗ R) ⊢ (run c) (k ⟨⟩) Q) :
    iprop(records loc K ∗ SND loc c j ∗ R)
      ⊢ (run c) (.op (.enqueueDma locM (.remote (Dev.tc n : Thread nD τ) M (.dma sS) hsc) (.dma sR) hsrc hdst hsem) k) Q := by
  subst hn hM hS hR
  unfold SND at h ⊢
  rw [bigSep_Ico_succ_bot hj]
  rw [bigSep_Ico_succ_top (Nat.zero_le j)] at h
  iintro ⟨#Hr, ⟨⟨%W, Ho⟩, ⟨⟨Hts, Htr, Hl, ⟨%fd, Hs⟩⟩, Hrest⟩, Hdone⟩, HR⟩
  unfold locTok slotPts
  iapply (Rounds.wp_send_pointsTo 𝒱₀ EX (sched loc) (c : Thread nD τ) none (κ₁ := K c (j + 1)) (κ₂ := K (tgt c j) (c.val + 32))
      (r₁ := 0) (r₂ := 0) (d₁ := 0) (d₂ := 0) (fd := fd)
      (by rw [duties_send loc c hj]; exact Finset.mem_singleton_self _)
      (by rw [duties_recv loc (tgt c j) c (tgt_ne c hj).symm]; exact Finset.mem_singleton_self _)
      () () N rfl (amount_dma loc c _ 0) (amount_dma loc (tgt c j) _ 0) (OR c (j + 1)) (OR_succ c hj) (W := W)
      (by rw [payload_send loc c hj]; exact BI.Entails.refl _)
      (by rw [payload_recv loc (tgt c j) c]; exact Entails.of_eq (slot_landed loc (tgt c j) c fd))) $$ [Ho Hts Htr Hl Hs]
  · isplitr; · iapply (inv_send loc K c hj); iexact Hr
    isplitr; · iapply (inv_recv loc K (tgt c j) c); iexact Hr
    isplitl [Hl]; · iexact Hl
    isplitl [Hs]; · iexact Hs
    isplitl [Ho]; · iexact Ho
    isplitl [Hts]; · iexact Hts
    isplitr; · iapply (reached_send loc K c hj); iexact Hr
    isplitl [Htr]; · iexact Htr
    iapply (reached_recv loc K (tgt c j) c); iexact Hr
  iintro ⟨Hc, Ho⟩
  iapply h
  isplitr; · iexact Hr
  isplitr [HR]
  · isplitl [Ho]; · iexists W; iexact Ho
    isplitl [Hrest]; · iexact Hrest
    isplitl [Hc]; · iexact Hc
    iexact Hdone
  iexact HR

/-- The wait for the copy from the device `1 + j` places ahead. -/
theorem step_recv (c : Dev nD) (j : ℕ) (hj : j < 31)
    {M : Memref sig .tc .vmem S2x1024 .f32} {sR : DmaSem sig} (hM : M = slotM (tgt c j)) (hR : sR = dsem ((tgt c j).val + 34))
    {hsrc : locM.view.WordExact} {hdst : M.view.WordExact}
    (h : iprop(records loc K ∗ RCV loc c (j + 1) ∗ R) ⊢ (run c) (k ⟨⟩) Q) :
    iprop(records loc K ∗ RCV loc c j ∗ R) ⊢ (run c) (.op (.waitDma2 sR locM M hsrc hdst) k) Q := by
  subst hM hR
  unfold RCV at h ⊢
  rw [bigSep_Ico_succ_bot hj]
  rw [bigSep_Ico_succ_top (Nat.zero_le j)] at h
  iintro ⟨#Hr, ⟨⟨%W, Ho⟩, ⟨⟨Hc, Hat⟩, Hrest⟩, Hdone⟩, HR⟩
  iapply (Rounds.wp_wait_rest_token 𝒱₀ EX (sched loc) (c : Thread nD τ) none (κ := K c ((tgt c j).val + 32))
      (wpE_waitDma2_eq 𝒱₀ (c : Thread nD τ) none Set.univ) (Set.mem_univ _) () (O := 0) (W := W) (R := 0) (m := 0) (T := ∅)
      (by rw [Nat.zero_add, expect_recv loc c _ (tgt_ne c hj)])) $$ [Hc Ho Hat]
  · isplitr; · iapply (inv_recv loc K c (tgt c j)); iexact Hr
    isplitl [Hc]; · iexact Hc
    isplitl [Ho]; · iexact Ho
    isplitr; · rw [MayWait_zero]; iempintro
    iexact Hat
  iintro ⟨Ho, Hat, -, Hpay⟩
  ihave Hp := (Entails.of_eq (rest_recv loc c _ (tgt_ne c hj))) $$ Hpay
  imod (Rounds.cell_close EX (sched loc) (Set.mem_univ (K c ((tgt c j).val + 32))) (fun h => h) (R := 0 + 1)
      (duties_later loc (recvCell c (tgt c j)))) $$ [Hat] with Hz
  · isplitr; · iapply (inv_recv loc K c (tgt c j)); iexact Hr
    iexact Hat
  iapply h
  isplitr; · iexact Hr
  isplitr [HR]
  · isplitl [Ho]; · iexists _; iexact Ho
    isplitl [Hrest]; · iexact Hrest
    isplitl [Hz Hp]
    · isplitl [Hz]; · iexact Hz
      iexact Hp
    iexact Hdone
  iexact HR

/-- The wait for the device's own `j`-th copy to have left. -/
theorem step_sent (c : Dev nD) (j : ℕ) (hj : j < 31)
    {M : Memref sig .tc .vmem S2x1024 .f32} {sS : DmaSem sig} (hS : sS = dsem (j + 3))
    {hsrc : M.view.WordExact} {hdst : locM.view.WordExact}
    (h : iprop(records loc K ∗ SWT loc c (j + 1) ∗ R) ⊢ (run c) (k ⟨⟩) Q) :
    iprop(records loc K ∗ SWT loc c j ∗ R) ⊢ (run c) (.op (.waitDma2 sS M locM hsrc hdst) k) Q := by
  subst hS
  unfold SWT at h ⊢
  rw [bigSep_Ico_succ_bot hj]
  rw [bigSep_Ico_succ_top (Nat.zero_le j)] at h
  iintro ⟨#Hr, ⟨⟨%W, Ho⟩, ⟨⟨Hc, Hat⟩, Hrest⟩, Hdone⟩, HR⟩
  iapply (Rounds.wp_wait_rest_token 𝒱₀ EX (sched loc) (c : Thread nD τ) none (κ := K c (j + 1))
      (wpE_waitDma2_eq 𝒱₀ (c : Thread nD τ) none Set.univ) (Set.mem_univ _) () (O := 0) (W := W) (R := 0) (m := 0) (T := ∅)
      (by rw [Nat.zero_add, expect_send loc c hj])) $$ [Hc Ho Hat]
  · isplitr; · iapply (inv_send loc K c hj); iexact Hr
    isplitl [Hc]; · iexact Hc
    isplitl [Ho]; · iexact Ho
    isplitr; · rw [MayWait_zero]; iempintro
    iexact Hat
  iintro ⟨Ho, Hat, -, Hpay⟩
  ihave Hp := (Entails.of_eq (rest_send loc c hj)) $$ Hpay
  imod (Rounds.cell_close EX (sched loc) (Set.mem_univ (K c (j + 1))) (fun h => h) (R := 0 + 1)
      (duties_later loc (sendCell c j))) $$ [Hat] with Hz
  · isplitr; · iapply (inv_send loc K c hj); iexact Hr
    iexact Hat
  iapply h
  isplitr; · iexact Hr
  isplitr [HR]
  · isplitl [Ho]; · iexists _; iexact Ho
    isplitl [Hrest]; · iexact Hrest
    isplitl [Hz Hp]
    · isplitl [Hz]; · iexact Hz
      iexact Hp
    iexact Hdone
  iexact HR

end Steps

end Cert.Exchange

end
-- ==== Proof.Local.lean ====
/-
# Copies of blocks of `x` into the working buffer

The working buffer has two slots of 256 rows. Each slot has a semaphore and a half share of `x` of its own, so the
copy into one slot runs while the other is read.
-/
module

public import proofs.«01_k».proof.Proof.Steps

@[expose] public section

noncomputable section

namespace Cert.Exchange

open Cert.KernelIdeal Cert.KernelIdeal.Gen

open Idealize.ShloMosaic
open Idealize.ShloMosaic.ValueIdx (ix1 ix2 ix3)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The block of `x` from row `o`. -/
abbrev blkM (o : ℕ) (h : ∀ a, (![o, 0] : Fin 2 → ℕ) a + S256x1024.size a ≤ S2048x1024.size a) :
    Memref sig .tc .hbm S256x1024 .f32 :=
  argM.slice (Rect.unit (s := S2048x1024) ![o, 0] S256x1024.size h) (fun _ => rfl)

/-- Slot `e` of the working buffer. -/
abbrev xsM (e : ℕ) (h : ∀ a, (![e, 0, 0] : Fin 3 → ℕ) a + S1x256x1024.size a ≤ S2x256x1024.size a) :
    Memref sig .tc .vmem S256x1024 .f32 :=
  (xbufM.slice (Rect.unit (s := S2x256x1024) ![e, 0, 0] S1x256x1024.size h) (fun _ => rfl)).squeeze S256x1024
    squeezes_S1x256x1024_S256x1024

/-- The rectangle of slot `e`, as the loads name it. -/
abbrev xsR (e : ℕ) (h : ∀ a, (![e, 0, 0] : Fin 3 → ℕ) a + S1x256x1024.size a ≤ S2x256x1024.size a) : Rect S2x256x1024 :=
  Rect.unit (s := S2x256x1024) ![e, 0, 0] S1x256x1024.size h

/-- A device's block of the argument. -/
abbrev Arg (F : FTy → Type) : Type := (main_arg0 : Ref sig .tc).ty.Contents (Elt F)

/-- The elements of slot `e`. -/
def xSet (e : ℕ) : Finset S2x256x1024.Idx := Finset.univ.filter fun i => (i 0).val = e

theorem xs_emb (e : ℕ) (h) (a : Fin 256) (b : Fin 1024) (he : e < 2) :
    (xsM e h).view.emb (ix2 a b) = (ix3 ⟨e, he⟩ a b : S2x256x1024.Idx) := by
  have h' : (xsM e h).view.emb (ix2 a b) = (xsR e h).emb
      (Shape.reshapeEquiv squeezes_S1x256x1024_S256x1024.numel_eq (ix2 a b)) := rfl
  rw [h', ValueIdx.reshapeEquiv_ix2_1ab squeezes_S1x256x1024_S256x1024.numel_eq a b]
  funext a
  fin_cases a <;> apply Fin.ext <;> simp [Rect.emb, LoadRect.idx, Rect.unit, ix3]

theorem slotNo_lt {e : ℕ} (h : ∀ a, (![e, 0, 0] : Fin 3 → ℕ) a + S1x256x1024.size a ≤ S2x256x1024.size a) : e < 2 := by
  have : e + 1 ≤ 2 := h 0
  omega

theorem blk_ix (i : S256x1024.Idx) : ∃ (x : Fin 256) (y : Fin 1024), i = ix2 x y :=
  ⟨i 0, i 1, by funext a; fin_cases a <;> rfl⟩

theorem xs_set (e : ℕ) (h) : (xsM e h).view.set ⊆ xSet e := by
  intro i hi
  obtain ⟨j, -, rfl⟩ := Finset.mem_map.mp hi
  obtain ⟨a, b, rfl⟩ := blk_ix j
  rw [xs_emb e h a b (slotNo_lt h)]
  exact Finset.mem_filter.mpr ⟨Finset.mem_univ _, rfl⟩

variable (x : Arg F)

/-- The working buffer where it holds the block of `x` from row `o`. -/
def xb (o : ℕ) : (cc0_scratch1 : Ref sig .tc).ty.Contents (Elt F) :=
  fun i => x (ix2 (Fin.ofNat 2048 (o + (i 1).val)) (i 2))

/-- The block of `x` from row `o`, as it is loaded. -/
def blk (o : ℕ) : Vec F S1x256x1024 .f32 :=
  fun i => x (ix2 (Fin.ofNat 2048 (o + (i 1).val)) (i 2))

/-- The share of `x` that the copies into slot `e` read. -/
def xq (e : ℕ) : PosShare TreeShare := if e = 0 then (fullShare : PosShare TreeShare).left else (fullShare : PosShare TreeShare).right

/-- Slot `e` holds `f`, its semaphore is at zero, and its share of `x` is whole. -/
def XI (c : Dev nD) (e : ℕ) (f : Buf (Elt F) (xbufM.view.loc (c : Thread nD τ))) : sProp 𝕄 :=
  iprop((argM.view.loc (c : Thread nD τ) ↦[Finset.univ]{xq e} x)
    ∗ (xbufM.view.loc (c : Thread nD τ) ↦[xSet e]{fullShare} f)
    ∗ semVal ((c : Thread nD τ), .dma (dsem (e + 1))) 0)

/-- The credit of one block. -/
abbrev NX : ℕ := (xsM 0 inb_S2x256x1024_S1x256x1024_0_0_0).view.dmaCredit

theorem NX_pos : 0 < NX := View.dmaCredit_pos _ (by decide)
theorem xs_credit (e : ℕ) (h) : (xsM e h).view.dmaCredit = NX := rfl
theorem xs_amount (e : ℕ) (h) (q : DmaSem sig) : (xsM e h).view.amount (.dma q) = NX := rfl

/-- A copy of the block from row `o` into slot `e` is under way. -/
def XF (c : Dev nD) (e o : ℕ) (h : ∀ a, (![o, 0] : Fin 2 → ℕ) a + S256x1024.size a ≤ S2048x1024.size a) : sProp 𝕄 :=
  iprop(Transfers.Flight (countersEmb (U := UU)) (c : Thread nD τ) (.dma (dsem (e + 1))) () NX
      iprop((xbufM.view.loc (c : Thread nD τ) ↦[xSet e]{fullShare} xb x o)
        ∗ argM.view.loc (c : Thread nD τ) ↦[(blkM o h).view.set]{xq e} x)
    ∗ argM.view.loc (c : Thread nD τ) ↦[Finset.univ \ (blkM o h).view.set]{xq e} x)

omit [FloatOps F] in
theorem xs_landed (c : Dev nD) (e o : ℕ) (he) (ho) (fd : Buf (Elt F) (xbufM.view.loc (c : Thread nD τ))) :
    (xbufM.view.loc (c : Thread nD τ) ↦[xSet e]{fullShare}
        (xsM e he).view.write (Elt F) fd ((blkM o ho).view.read (Elt F) x) Finset.univ : sProp 𝕄)
      = (xbufM.view.loc (c : Thread nD τ) ↦[xSet e]{fullShare} xb x o) := by
  refine pointsTo_congr fun i hi => ?_
  have hi' : (i 0).val = e := (Finset.mem_filter.mp hi).2
  have hi2 : i = (xsM e he).view.emb (ix2 (i 1) (i 2)) := by
    refine Eq.trans ?_ (xs_emb e he (i 1) (i 2) (slotNo_lt he)).symm
    funext a
    fin_cases a
    · exact Fin.ext hi'
    · rfl
    · rfl
  rw [hi2, View.write_emb_of_mem _ _ (Finset.mem_univ _), ← hi2]
  have ho' : o + 256 ≤ 2048 := ho 0
  have h1 : (i 1).val < 256 := (i 1).isLt
  show x ((blkM o ho).view.emb (ix2 (i 1) (i 2))) = x _
  congr 1
  funext a
  fin_cases a <;> apply Fin.ext
  · show o + 1 * (i 1).val = (o + (i 1).val) % 2048
    omega
  · show 0 + 1 * (i 2).val = (i 2).val
    omega

section Steps

variable {α : Type} {Q : α → sProp (MT nD τ sig Unit (Elt F) ℕ UU ℕ)} {R : sProp (MT nD τ sig Unit (Elt F) ℕ UU ℕ)}

local notation "run" c => wp frame (wpE (defs₀ (F := F)) 𝒱₀ ((c : Dev nD) : Thread nD τ) none) Set.univ

/-- A copy of a block into an idle slot starts. -/
theorem step_copy (c : Dev nD) (e o : ℕ) (he) (ho) {q : DmaSem sig} (hq : q = dsem (e + 1)) {f}
    {hsrc : (blkM o ho).view.WordExact} {hdst : (xsM e he).view.WordExact}
    {hsem : DmaTarget.Typed (nD := nD) (τ := τ) (p := .tc) .hbm (.dma q) (.here (xsM e he))}
    {k : PUnit → Prog (TpuEff nD τ sig (Elt F) Λ₀ .tc) α}
    (h : iprop(XF x c e o ho ∗ R) ⊢ (run c) (k ⟨⟩) Q) :
    iprop(XI x c e f ∗ R) ⊢ (run c) (.op (.enqueueDma (blkM o ho) (.here (xsM e he)) (.dma q) hsrc hdst hsem) k) Q := by
  subst hq
  unfold XF at h
  unfold XI
  iintro ⟨⟨Hx, Hb, Hs⟩, HR⟩
  ihave Hx2 := (pointsTo_split_subset (Finset.subset_univ (blkM o ho).view.set)).1 $$ Hx
  icases Hx2 with ⟨Hx1, Hx2⟩
  iapply (Transfers.wp_dmaLocal (countersEmb (U := UU)) 𝒱₀ (c : Thread nD τ) none (q := xq e) (fs := x) (Sd := xSet e) (fd := f)
    (src := blkM o ho) (via := .same) (dst := xsM e he) (sm := .dma (dsem (e + 1))) (hsrc := hsrc) (hdst := hdst) (hsem := hsem)
    () NX (xs_amount e he _) NX_pos (xs_set e he)) $$ [Hx1 Hb Hs]
  · isplitl [Hx1]; · iexact Hx1
    isplitl [Hb]; · iexact Hb
    iexact Hs
  iintro Hf
  iapply h
  isplitr [HR]
  · isplitl [Hf]
    · rw [← xs_landed x c e o he ho f]; iexact Hf
    iexact Hx2
  iexact HR

/-- The wait for it, with signals or copies still owed. -/
theorem step_landed (c : Dev nD) (e o : ℕ) (he) (ho) {q : DmaSem sig} (hq : q = dsem (e + 1)) (loc : Dev nD → Tab F)
    (K : Dev nD → ℕ → ℕ) (i j : ℕ)
    {hsrc : (blkM o ho).view.WordExact} {hdst : (xsM e he).view.WordExact}
    {k : PUnit → Prog (TpuEff nD τ sig (Elt F) Λ₀ .tc) α}
    (h : iprop((∃ W, owes (c : Thread nD τ) (OR c i + OB c j) W) ∗ XI x c e (xb x o) ∗ R) ⊢ (run c) (k ⟨⟩) Q) :
    iprop(records loc K ∗ (∃ W, owes (c : Thread nD τ) (OR c i + OB c j) W) ∗ XF x c e o ho ∗ R)
      ⊢ (run c) (.op (.waitDma2 q (blkM o ho) (xsM e he) hsrc hdst) k) Q := by
  subst hq
  unfold XI at h
  unfold XF
  have he2 := slotNo_lt he
  iintro ⟨#Hr, ⟨%W, Ho⟩, ⟨Hf, Hx2⟩, HR⟩
  iapply (Transfers.wp_waitLocalO (countersEmb (U := UU)) 𝒱₀ (c : Thread nD τ) none () (N := NX)
    (srcw := blkM o ho) (dstw := xsM e he) (hsrc := hsrc) (hdst := hdst) (xs_credit e he) (O := OR c i + OB c j) (W := W)) $$ [Hf Ho]
  · isplitl [Hf]; · iexact Hf
    isplitl [Ho]; · iexact Ho
    iapply (records_low loc K c (dsem (e + 1)) (by rw [dsem_val (by omega)]; omega) i j); iexact Hr
  iintro ⟨⟨Hb, Hx1⟩, Hs, Ho⟩
  iapply h
  isplitl [Ho]; · iexists _; iexact Ho
  isplitr [HR]
  · isplitl [Hx1 Hx2]
    · iapply (pointsTo_split_subset (Finset.subset_univ (blkM o ho).view.set)).2
      isplitl [Hx1]; · iexact Hx1
      iexact Hx2
    isplitl [Hb]; · iexact Hb
    iexact Hs
  iexact HR

/-- What a load of the slot reads. -/
theorem xs_read (e o : ℕ) (he) : xbufM.view.readAt (Elt F) (xsR e he).toLoadRect (xb x o) = blk x o := by
  funext i
  show x _ = x _
  congr 1
  funext a
  fin_cases a <;> apply Fin.ext
  · show (o + (0 + 1 * (i 1).val)) % 2048 = (o + (i 1).val) % 2048
    rw [Nat.zero_add, Nat.one_mul]
  · show 0 + 1 * (i 2).val = (i 2).val
    omega

theorem xs_loaded (e : ℕ) (he) : xbufM.view.setOn (xsR e he).toLoadRect.set ⊆ xSet e := by
  intro i hi
  obtain ⟨j, hj, rfl⟩ := Finset.mem_map.mp hi
  obtain ⟨t, ht, hj'⟩ := (xsR e he).toLoadRect.mem_set.mp hj 0
  have ht' : t < 1 := ht
  have hj2 : (j 0).val = e + 1 * t := hj'
  refine Finset.mem_filter.mpr ⟨Finset.mem_univ _, ?_⟩
  show (j 0).val = e
  omega

/-- A load of the block in a slot. -/
theorem step_blk (c : Dev nD) (e o : ℕ) (he) {hl : xbufM.view.LoadsAt (xsR e he).toLoadRect}
    {k : Vec F S1x256x1024 .f32 → Prog (TpuEff nD τ sig (Elt F) Λ₀ .tc) α}
    (h : iprop(XI x c e (xb x o) ∗ R) ⊢ (run c) (k (blk x o)) Q) :
    iprop(XI x c e (xb x o) ∗ R) ⊢ (run c) (.op (.load xbufM (xsR e he).toLoadRect hl) k) Q := by
  unfold XI at h ⊢
  iintro ⟨⟨Hx, Hb, Hs⟩, HR⟩
  iapply (wp_load 𝒱₀ (c : Thread nD τ) none Set.univ (m := xbufM) (xs_loaded e he)) $$ Hb
  iintro Hb
  rw [xs_read x e o he]
  iapply h
  isplitr [HR]
  · isplitl [Hx]; · iexact Hx
    isplitl [Hb]; · iexact Hb
    iexact Hs
  iexact HR

end Steps

end Cert.Exchange

end
-- ==== Proof.Table.lean ====
/-
# The tables the devices exchange

A device's table has two rows: the maximum of each column of its own rows, and the number of the first row, as a
float, that attains it. The result is a table of the same form over all rows.
-/
module

public import proofs.«01_k».proof.Proof.Local

@[expose] public section

noncomputable section

namespace Cert.Exchange

open Cert.KernelIdeal Cert.KernelIdeal.Gen

open Idealize.ShloMosaic
open Idealize.ShloMosaic.ValueIdx (ix1 ix2 ix3)
open Idealize.ShloMosaic.TcCoe

variable {F : FTy → Type} [FloatOps F]

/-- The device's number, as the kernel computes it. -/
abbrev wd (c : Dev nD) : BitVec 32 := Scalar.remsi (Scalar.divsi (Dev.word c) 1#32) 32#32

/-- The row numbers of a block. -/
abbrev rowIds : IVec S256x1024 32 := iota .tc S256x1024 32 [0] iota_S256x1024_d0_w32

/-- A block as 256 rows, -/
def bval (v : Vec F S1x256x1024 .f32) : FVec F S256x1024 .f32 := shapeCast S256x1024 v shapeCasts_S1x256x1024_S256x1024
/-- the maximum of each of its columns, -/
def bmax (v : Vec F S1x256x1024 .f32) : FVec F S1024 .f32 :=
  multiReduction .maximumf [0] S1024 (bval v) 0xFF800000#32 reduces_S256x1024_S1024 (.inl rfl) rfl
/-- the first row of the block that attains it, -/
def brow (v : Vec F S1x256x1024 .f32) : IVec S1024 32 :=
  multiReductionI .minsi [0] S1024
    (select (cmpf .oeq (bval v) (broadcastTo S256x1024 (shapeCast S1x1024 (bmax v) shapeCasts_S1024_S1x1024) broadcasts_S1x1024_S256x1024))
      rowIds (broadcast S256x1024 256#32))
    2147483647#32 reduces_S256x1024_S1024 rfl
/-- and that row's number in the whole array, the block beginning at row `o` of device number `w`. -/
def bidx (w o : BitVec 32) (v : Vec F S1x256x1024 .f32) : FVec F S1024 .f32 :=
  sitofp .f32 (addi (broadcast S1024 (Scalar.addi (Scalar.muli w 2048#32) o)) (brow v))

variable (x : Arg F)

/-- The maximum of each column over the blocks `0 … b`; -/
def accM : ℕ → FVec F S1024 .f32
  | 0 => bmax (blk x 0)
  | b + 1 => select (cmpf .ogt (bmax (blk x (256 * (b + 1)))) (accM b)) (bmax (blk x (256 * (b + 1)))) (accM b)
/-- the number of the first row attaining it. -/
def accI (w : BitVec 32) : ℕ → FVec F S1024 .f32
  | 0 => bidx w 0#32 (blk x 0)
  | b + 1 => select (cmpf .ogt (bmax (blk x (256 * (b + 1)))) (accM x b))
      (bidx w (BitVec.ofNat 32 (256 * (b + 1))) (blk x (256 * (b + 1)))) (accI w b)

/-- A table of two given rows. -/
def twoRows (a b : FVec F S1x1024 .f32) : Tab F :=
  fun i => if (i 0).val = 0 then a (ix2 0 (i 1)) else b (ix2 0 (i 1))

/-- Device `c`'s table. -/
def locTab (c : Dev nD) : Tab F :=
  twoRows (shapeCast S1x1024 (accM x 7) shapeCasts_S1024_S1x1024) (shapeCast S1x1024 (accI x (wd c) 7) shapeCasts_S1024_S1x1024)

/-- Row 0 of every slot of the receive buffer, and row 1. -/
abbrev rc0 : Rect S32x2x1024 := Rect.unit (s := S32x2x1024) ![0, 0, 0] S32x1x1024.size inb_S32x2x1024_S32x1x1024_0_0_0
abbrev rc1 : Rect S32x2x1024 := Rect.unit (s := S32x2x1024) ![0, 1, 0] S32x1x1024.size inb_S32x2x1024_S32x1x1024_0_1_0

/-- All devices' tables. -/
abbrev locs (X : Dev nD → Arg F) : Dev nD → Tab F := fun c => locTab (X c) c

/-- The result that a receive buffer `g` gives on device `c`. -/
def outOf (X : Dev nD → Arg F) (c : Dev nD) (g : (cc0_scratch2 : Ref sig .tc).ty.Contents (Elt F)) : Tab F :=
  twoRows (k0_pay4 (wd c) (accM (X c) 7) (rcvM.view.readAt (Elt F) rc0.toLoadRect g))
    (k0_pay5 (wd c) (accM (X c) 7) (accI (X c) (wd c) 7) (rcvM.view.readAt (Elt F) rc0.toLoadRect g)
      (rcvM.view.readAt (Elt F) rc1.toLoadRect g))

/-- The result on device `c`. -/
def outAt (X : Dev nD → Arg F) (c : Dev nD) : Tab F := outOf X c (gbuf (locs X))

theorem wd_eq (c : Dev nD) : wd c = BitVec.ofNat 32 c.val := by
  revert c; decide +kernel

/-- The mask of a device's own slot. -/
theorem own_mask (c : Dev nD) (s : Fin 32) (y : Fin 1024) : k0_pay1 (wd c) (ix2 s y) = BitVec.ofBool (decide (s.val = c.val)) := by
  rw [wd_eq]
  have h1 := c.isLt
  simp only [nD] at h1
  show BitVec.ofBool (BitVec.ofNat 32 (0 * 32 + s.val) == BitVec.ofNat 32 c.val) = _
  rw [Nat.zero_mul, Nat.zero_add]
  congr 1
  rw [beq_eq_decide]
  refine decide_eq_decide.mpr ⟨fun h => ?_, fun h => by rw [h]⟩
  have := congrArg BitVec.toNat h
  simp only [BitVec.toNat_ofNat] at this
  have := s.isLt
  omega

theorem slots_ix (i : S32x1024.Idx) : ∃ (s : Fin 32) (y : Fin 1024), i = ix2 s y :=
  ⟨i 0, i 1, by funext a; fin_cases a <;> rfl⟩

/-- An entry of one row of every slot, as a matrix. -/
theorem slots_cast {α : Type} (u : S32x1x1024.Idx → α) (s : Fin 32) (y : Fin 1024) :
    shapeCast S32x1024 u shapeCasts_S32x1x1024_S32x1024 (ix2 s y) = u (ix3 s 0 y) := by
  show u (Shape.reshapeEquiv _ _) = u _
  congr 1
  refine Shape.reshapeEquiv_eq_of_rowMajor _ ?_
  rw [Shape.rowMajor_val_three, Shape.rowMajor_val_two]
  show (s.val * 1 + 0) * 1024 + y.val = s.val * 1024 + y.val
  omega

/-- A select by that mask does not look at the device's own slot. -/
theorem own_select (c : Dev nD) (a : FVec F S32x1024 .f32) (u v : Vec F S32x1x1024 .f32)
    (h : ∀ (s : Fin 32) (y : Fin 1024), s.val ≠ c.val → u (ix3 s 0 y) = v (ix3 s 0 y)) :
    select (k0_pay1 (wd c)) a (shapeCast S32x1024 u shapeCasts_S32x1x1024_S32x1024)
      = select (k0_pay1 (wd c)) a (shapeCast S32x1024 v shapeCasts_S32x1x1024_S32x1024) := by
  funext i
  obtain ⟨s, y, rfl⟩ := slots_ix i
  show (if k0_pay1 (wd c) (ix2 s y) = 1#1 then _ else _) = (if k0_pay1 (wd c) (ix2 s y) = 1#1 then _ else _)
  rw [own_mask, slots_cast, slots_cast]
  by_cases hs : s.val = c.val
  · rw [decide_eq_true hs]; rfl
  · rw [h s y hs]

/-- What a load of row 0 of every slot reads, and of row 1. -/
theorem rc0_read (g : (cc0_scratch2 : Ref sig .tc).ty.Contents (Elt F)) (s : Fin 32) (y : Fin 1024) :
    rcvM.view.readAt (Elt F) rc0.toLoadRect g (ix3 s 0 y) = g (ix3 s 0 y) := by
  have e : rc0.emb (ix3 s 0 y) = (ix3 s 0 y : S32x2x1024.Idx) := by
    funext a
    fin_cases a <;> apply Fin.ext <;> simp [Rect.emb, LoadRect.idx, Rect.unit, ix3]
  exact congrArg g e
theorem rc1_read (g : (cc0_scratch2 : Ref sig .tc).ty.Contents (Elt F)) (s : Fin 32) (y : Fin 1024) :
    rcvM.view.readAt (Elt F) rc1.toLoadRect g (ix3 s 0 y) = g (ix3 s 1 y) := by
  have e : rc1.emb (ix3 s 0 y) = (ix3 s 1 y : S32x2x1024.Idx) := by
    funext a
    fin_cases a <;> apply Fin.ext <;> simp [Rect.emb, LoadRect.idx, Rect.unit, ix3]
  exact congrArg g e

/-- The result does not depend on the device's own slot. -/
theorem outOf_congr (X : Dev nD → Arg F) (c : Dev nD) (g g' : (cc0_scratch2 : Ref sig .tc).ty.Contents (Elt F))
    (h : ∀ (s : Fin 32) (a : Fin 2) (y : Fin 1024), s.val ≠ c.val → g (ix3 s a y) = g' (ix3 s a y)) :
    outOf X c g = outOf X c g' := by
  have h0 : k0_pay2 (wd c) (rcvM.view.readAt (Elt F) rc0.toLoadRect g) = k0_pay2 (wd c) (rcvM.view.readAt (Elt F) rc0.toLoadRect g') :=
    own_select c _ _ _ fun s y hs => by rw [rc0_read, rc0_read]; exact h s 0 y hs
  have h1 := own_select c (broadcast S32x1024 (Scalar.ofBits (F := F) .f32 0x4E6E6B28#32)) (rcvM.view.readAt (Elt F) rc1.toLoadRect g)
    (rcvM.view.readAt (Elt F) rc1.toLoadRect g') fun s y hs => by rw [rc1_read, rc1_read]; exact h s 1 y hs
  have h3 : ∀ m, k0_pay3 (wd c) m (rcvM.view.readAt (Elt F) rc0.toLoadRect g) = k0_pay3 (wd c) m (rcvM.view.readAt (Elt F) rc0.toLoadRect g') :=
    fun m => by unfold k0_pay3; rw [h0]
  unfold outOf k0_pay4 k0_pay5
  dsimp only
  rw [h0, h1, h3]

/-! ## Storing the two rows -/

abbrev rw0 : Rect S2x1024 := Rect.unit (s := S2x1024) ![0, 0] S1x1024.size inb_S2x1024_S1x1024_0_0
abbrev rw1 : Rect S2x1024 := Rect.unit (s := S2x1024) ![1, 0] S1x1024.size inb_S2x1024_S1x1024_1_0

theorem rw0_emb (y : Fin 1024) : rw0.emb (ix2 0 y) = (ix2 0 y : S2x1024.Idx) := by
  funext a
  fin_cases a <;> apply Fin.ext <;> simp [Rect.emb, LoadRect.idx, Rect.unit, ix2]
theorem rw1_emb (y : Fin 1024) : rw1.emb (ix2 0 y) = (ix2 1 y : S2x1024.Idx) := by
  funext a
  fin_cases a <;> apply Fin.ext <;> simp [Rect.emb, LoadRect.idx, Rect.unit, ix2]
theorem row_ix (i : S1x1024.Idx) : ∃ y : Fin 1024, i = ix2 0 y :=
  ⟨i 1, by
    have h : (i 0).val < 1 := (i 0).isLt
    funext a
    fin_cases a
    · exact Fin.ext (Nat.lt_one_iff.mp h)
    · rfl⟩

/-- Row 0 stored, then row 1: the table of the two rows, whatever was there; in the device's own table, -/
theorem loc_rows (f : Tab F) (a b : FVec F S1x1024 .f32) :
    (locM.access rw1).write (Elt F) ((locM.access rw0).write (Elt F) f a Finset.univ) b Finset.univ = twoRows a b := by
  funext i
  obtain ⟨x, y, rfl⟩ := tab_ix i
  fin_cases x
  · refine Eq.trans (View.write_of_not_mem _ _ _ fun hm => ?_) ?_
    · obtain ⟨j, -, hj⟩ := Finset.mem_map.mp hm
      obtain ⟨z, rfl⟩ := row_ix j
      have h : (1 : ℕ) = 0 := congrArg (fun k : S2x1024.Idx => (k 0).val) ((rw1_emb z).symm.trans hj)
      omega
    · refine Eq.trans (congrArg _ (rw0_emb y).symm) ?_
      exact View.write_emb_of_mem (Val := Elt F) (v := locM.access rw0) f a (Finset.mem_univ _)
  · refine Eq.trans (congrArg _ (rw1_emb y).symm) ?_
    exact View.write_emb_of_mem (Val := Elt F) (v := locM.access rw1) _ b (Finset.mem_univ _)

/-- and in the result. -/
theorem out_rows (f : Tab F) (a b : FVec F S1x1024 .f32) :
    (outM.access rw1).write (Elt F) ((outM.access rw0).write (Elt F) f a Finset.univ) b Finset.univ = twoRows a b := by
  funext i
  obtain ⟨x, y, rfl⟩ := tab_ix i
  fin_cases x
  · refine Eq.trans (View.write_of_not_mem _ _ _ fun hm => ?_) ?_
    · obtain ⟨j, -, hj⟩ := Finset.mem_map.mp hm
      obtain ⟨z, rfl⟩ := row_ix j
      have h : (1 : ℕ) = 0 := congrArg (fun k : S2x1024.Idx => (k 0).val) ((rw1_emb z).symm.trans hj)
      omega
    · refine Eq.trans (congrArg _ (rw0_emb y).symm) ?_
      exact View.write_emb_of_mem (Val := Elt F) (v := outM.access rw0) f a (Finset.mem_univ _)
  · refine Eq.trans (congrArg _ (rw1_emb y).symm) ?_
    exact View.write_emb_of_mem (Val := Elt F) (v := outM.access rw1) _ b (Finset.mem_univ _)

end Cert.Exchange

end
-- ==== Proof.Moves.lean ====
/-
# The operations in the order the program takes them, and what passes from one phase to the next

The lemmas of the first part restate the steps of the exchange for the program's own way of naming slots and
semaphores. Those of the second part turn what a device holds at the end of a phase into what the next one starts from.
-/
module

public import proofs.«01_k».proof.Proof.Table

@[expose] public section

noncomputable section

namespace Cert.Exchange

open Cert.KernelIdeal Cert.KernelIdeal.Gen

open Idealize.ShloMosaic
open Idealize.ShloMosaic.ValueIdx (ix1 ix2 ix3)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program's names -/

/-- Receive semaphore `s`, as an element of the array of thirty-two. -/
theorem recv_sem_at (s : Fin 32) (h : ∀ a, (![s.val] : Fin 1 → ℕ) a + S1.size a ≤ S32.size a) (hq : S1.Squeezes S_) :
    ((cc0_scratch5.slice (Rect.unit (s := S32) ![s.val] S1.size h)).squeeze S_ hq).sem = dsem (s.val + 34) := by
  revert h hq; revert s; decide

theorem recv_sem (s : Dev nD) {off : Fin 1 → ℕ} (e : off = ![s.val]) (h : ∀ a, off a + S1.size a ≤ S32.size a) (hq : S1.Squeezes S_) :
    ((cc0_scratch5.slice (Rect.unit (s := S32) off S1.size h)).squeeze S_ hq).sem = dsem (s.val + 34) := by
  subst e; exact recv_sem_at s h hq

theorem slot_at (s : Dev nD) {off : Fin 3 → ℕ} (e : off = ![s.val, 0, 0]) (h : ∀ a, off a + S1x2x1024.size a ≤ S32x2x1024.size a)
    (hs) (hq : S1x2x1024.Squeezes S2x1024) :
    (rcvM.slice (Rect.unit (s := S32x2x1024) off S1x2x1024.size h) hs).squeeze S2x1024 hq = slotM s := by
  subst e; rfl

theorem off3_at : ∀ (j : Fin 31) (c : Dev nD), k0_off3 c (BitVec.ofNat 32 j.val) = ![(tgt c j.val).val] := by decide +kernel
theorem off4_at : ∀ (j : Fin 31) (c : Dev nD), k0_off4 c (BitVec.ofNat 32 j.val) = ![(tgt c j.val).val, 0, 0] := by decide +kernel

/-! ## The operations -/

section Ops

variable (loc : Dev nD → Tab F) (K : Dev nD → ℕ → ℕ) (x : Arg F)
variable {α : Type} {Q : α → sProp (MT nD τ sig Unit (Elt F) ℕ UU ℕ)} {P R A B : sProp (MT nD τ sig Unit (Elt F) ℕ UU ℕ)}

local notation "run" c => wp frame (wpE (defs₀ (F := F)) 𝒱₀ ((c : Dev nD) : Thread nD τ) none) Set.univ

theorem op_dev (c : Dev nD) {k : Dev nD → Prog (TpuEff nD τ sig (Elt F) Λ₀ .tc) α} (h : P ⊢ (run c) (k c) Q) :
    P ⊢ (run c) (.op .deviceId k) Q := by
  rw [wp_deviceId]; exact h

/-- A copy into slot 0 starts; -/
theorem op_copy0 (c : Dev nD) (o : ℕ) {he} {ho} {q : DmaSem sig} (hq : q = dsem 1) {f}
    {hsrc : (blkM o ho).view.WordExact} {hdst : (xsM 0 he).view.WordExact}
    {hsem : DmaTarget.Typed (nD := nD) (τ := τ) (p := .tc) .hbm (.dma q) (.here (xsM 0 he))}
    {k : PUnit → Prog (TpuEff nD τ sig (Elt F) Λ₀ .tc) α}
    (h : iprop(records loc K ∗ A ∗ XF x c 0 o ho ∗ B ∗ R) ⊢ (run c) (k ⟨⟩) Q) :
    iprop(records loc K ∗ A ∗ XI x c 0 f ∗ B ∗ R)
      ⊢ (run c) (.op (.enqueueDma (blkM o ho) (.here (xsM 0 he)) (.dma q) hsrc hdst hsem) k) Q := by
  iintro ⟨Hr, HA, HX, HB, HR⟩
  iapply (step_copy x c 0 o he ho hq (f := f) (R := iprop(records loc K ∗ A ∗ B ∗ R)) (by
    iintro ⟨HX, Hr, HA, HB, HR⟩
    iapply h
    isplitl [Hr]; · iexact Hr
    isplitl [HA]; · iexact HA
    isplitl [HX]; · iexact HX
    isplitl [HB] <;> iassumption))
  isplitl [HX]; · iexact HX
  isplitl [Hr]; · iexact Hr
  isplitl [HA]; · iexact HA
  isplitl [HB] <;> iassumption

/-- into slot 1. -/
theorem op_copy1 (c : Dev nD) (o : ℕ) {he} {ho} {q : DmaSem sig} (hq : q = dsem 2) {f}
    {hsrc : (blkM o ho).view.WordExact} {hdst : (xsM 1 he).view.WordExact}
    {hsem : DmaTarget.Typed (nD := nD) (τ := τ) (p := .tc) .hbm (.dma q) (.here (xsM 1 he))}
    {k : PUnit → Prog (TpuEff nD τ sig (Elt F) Λ₀ .tc) α}
    (h : iprop(records loc K ∗ A ∗ B ∗ XF x c 1 o ho ∗ R) ⊢ (run c) (k ⟨⟩) Q) :
    iprop(records loc K ∗ A ∗ B ∗ XI x c 1 f ∗ R)
      ⊢ (run c) (.op (.enqueueDma (blkM o ho) (.here (xsM 1 he)) (.dma q) hsrc hdst hsem) k) Q := by
  iintro ⟨Hr, HA, HB, HX, HR⟩
  iapply (step_copy x c 1 o he ho hq (f := f) (R := iprop(records loc K ∗ A ∗ B ∗ R)) (by
    iintro ⟨HX, Hr, HA, HB, HR⟩
    iapply h
    isplitl [Hr]; · iexact Hr
    isplitl [HA]; · iexact HA
    isplitl [HB]; · iexact HB
    isplitl [HX] <;> iassumption))
  isplitl [HX]; · iexact HX
  isplitl [Hr]; · iexact Hr
  isplitl [HA]; · iexact HA
  isplitl [HB] <;> iassumption

/-- The wait for the copy into slot 0, once every barrier signal is given; -/
theorem op_landed0 (c : Dev nD) (o : ℕ) {he} {ho} {q : DmaSem sig} (hq : q = dsem 1)
    {hsrc : (blkM o ho).view.WordExact} {hdst : (xsM 0 he).view.WordExact}
    {k : PUnit → Prog (TpuEff nD τ sig (Elt F) Λ₀ .tc) α}
    (h : iprop(records loc K ∗ SIG c 31 ∗ XI x c 0 (xb x o) ∗ B ∗ R) ⊢ (run c) (k ⟨⟩) Q) :
    iprop(records loc K ∗ SIG c 31 ∗ XF x c 0 o ho ∗ B ∗ R)
      ⊢ (run c) (.op (.waitDma2 q (blkM o ho) (xsM 0 he) hsrc hdst) k) Q := by
  unfold SIG at h ⊢
  iintro ⟨#Hr, ⟨Ho, HA⟩, HX, HB, HR⟩
  iapply (step_landed x c 0 o he ho hq loc K 0 31 (R := iprop(records loc K ∗ _ ∗ B ∗ R)) (by
    iintro ⟨Ho, HX, Hr, HA, HB, HR⟩
    iapply h
    isplitl [Hr]; · iexact Hr
    isplitl [Ho HA]
    · isplitl [Ho]; · iexact Ho
      iexact HA
    isplitl [HX]; · iexact HX
    isplitl [HB] <;> iassumption))
  isplitr; · iexact Hr
  isplitl [Ho]; · iexact Ho
  isplitl [HX]; · iexact HX
  isplitr; · iexact Hr
  isplitl [HA]; · iexact HA
  isplitl [HB] <;> iassumption

/-- into slot 1. -/
theorem op_landed1 (c : Dev nD) (o : ℕ) {he} {ho} {q : DmaSem sig} (hq : q = dsem 2)
    {hsrc : (blkM o ho).view.WordExact} {hdst : (xsM 1 he).view.WordExact}
    {k : PUnit → Prog (TpuEff nD τ sig (Elt F) Λ₀ .tc) α}
    (h : iprop(records loc K ∗ SIG c 31 ∗ B ∗ XI x c 1 (xb x o) ∗ R) ⊢ (run c) (k ⟨⟩) Q) :
    iprop(records loc K ∗ SIG c 31 ∗ B ∗ XF x c 1 o ho ∗ R)
      ⊢ (run c) (.op (.waitDma2 q (blkM o ho) (xsM 1 he) hsrc hdst) k) Q := by
  unfold SIG at h ⊢
  iintro ⟨#Hr, ⟨Ho, HA⟩, HB, HX, HR⟩
  iapply (step_landed x c 1 o he ho hq loc K 0 31 (R := iprop(records loc K ∗ _ ∗ B ∗ R)) (by
    iintro ⟨Ho, HX, Hr, HA, HB, HR⟩
    iapply h
    isplitl [Hr]; · iexact Hr
    isplitl [Ho HA]
    · isplitl [Ho]; · iexact Ho
      iexact HA
    isplitl [HB]; · iexact HB
    isplitl [HX] <;> iassumption))
  isplitr; · iexact Hr
  isplitl [Ho]; · iexact Ho
  isplitl [HX]; · iexact HX
  isplitr; · iexact Hr
  isplitl [HA]; · iexact HA
  isplitl [HB] <;> iassumption

/-- The load of slot 0; -/
theorem op_blk0 (c : Dev nD) (o : ℕ) {he} {hl : xbufM.view.LoadsAt (xsR 0 he).toLoadRect}
    {k : Vec F S1x256x1024 .f32 → Prog (TpuEff nD τ sig (Elt F) Λ₀ .tc) α}
    (h : iprop(records loc K ∗ A ∗ XI x c 0 (xb x o) ∗ B ∗ R) ⊢ (run c) (k (blk x o)) Q) :
    iprop(records loc K ∗ A ∗ XI x c 0 (xb x o) ∗ B ∗ R) ⊢ (run c) (.op (.load xbufM (xsR 0 he).toLoadRect hl) k) Q := by
  iintro ⟨Hr, HA, HX, HB, HR⟩
  iapply (step_blk x c 0 o he (R := iprop(records loc K ∗ A ∗ B ∗ R)) (by
    iintro ⟨HX, Hr, HA, HB, HR⟩
    iapply h
    isplitl [Hr]; · iexact Hr
    isplitl [HA]; · iexact HA
    isplitl [HX]; · iexact HX
    isplitl [HB] <;> iassumption))
  isplitl [HX]; · iexact HX
  isplitl [Hr]; · iexact Hr
  isplitl [HA]; · iexact HA
  isplitl [HB] <;> iassumption

/-- of slot 1. -/
theorem op_blk1 (c : Dev nD) (o : ℕ) {he} {hl : xbufM.view.LoadsAt (xsR 1 he).toLoadRect}
    {k : Vec F S1x256x1024 .f32 → Prog (TpuEff nD τ sig (Elt F) Λ₀ .tc) α}
    (h : iprop(records loc K ∗ A ∗ B ∗ XI x c 1 (xb x o) ∗ R) ⊢ (run c) (k (blk x o)) Q) :
    iprop(records loc K ∗ A ∗ B ∗ XI x c 1 (xb x o) ∗ R) ⊢ (run c) (.op (.load xbufM (xsR 1 he).toLoadRect hl) k) Q := by
  iintro ⟨Hr, HA, HB, HX, HR⟩
  iapply (step_blk x c 1 o he (R := iprop(records loc K ∗ A ∗ B ∗ R)) (by
    iintro ⟨HX, Hr, HA, HB, HR⟩
    iapply h
    isplitl [Hr]; · iexact Hr
    isplitl [HA]; · iexact HA
    isplitl [HB]; · iexact HB
    isplitl [HX] <;> iassumption))
  isplitl [HX]; · iexact HX
  isplitl [Hr]; · iexact Hr
  isplitl [HA]; · iexact HA
  isplitl [HB] <;> iassumption

/-- A load from a buffer held whole; -/
theorem op_load (c : Dev nD) {sp : CoreSpace} {s : Shape} {e : EltTy} (m : Memref sig .tc sp s e) {f : Buf (Elt F) (m.view.loc (c : Thread nD τ))}
    {r : LoadRect s} {hl : m.view.LoadsAt r} {k : (r.shape.Idx → Elt F e) → Prog (TpuEff nD τ sig (Elt F) Λ₀ .tc) α}
    (h : iprop((m.view.loc (c : Thread nD τ) ↦[Finset.univ]{fullShare} f) ∗ R) ⊢ (run c) (k (m.view.readAt (Elt F) r f)) Q) :
    iprop((m.view.loc (c : Thread nD τ) ↦[Finset.univ]{fullShare} f) ∗ R) ⊢ (run c) (.op (.load m r hl) k) Q := by
  iintro ⟨Hb, HR⟩
  iapply (wp_load 𝒱₀ (c : Thread nD τ) none Set.univ (m := m) (Finset.subset_univ _)) $$ Hb
  iintro Hb
  iapply h
  isplitl [Hb] <;> iassumption

/-- a store into one. -/
theorem op_store (c : Dev nD) {sp : CoreSpace} {s : Shape} {e : EltTy} (m : Memref sig .tc sp s e) {f : Buf (Elt F) (m.view.loc (c : Thread nD τ))}
    {r : Rect s} {w : (r.shape.Idx → Elt F e)} {hs hm} {k : PUnit → Prog (TpuEff nD τ sig (Elt F) Λ₀ .tc) α}
    (h : iprop((m.view.loc (c : Thread nD τ) ↦[Finset.univ]{fullShare} (m.access r).write (Elt F) f w Finset.univ) ∗ R) ⊢ (run c) (k ⟨⟩) Q) :
    iprop((m.view.loc (c : Thread nD τ) ↦[Finset.univ]{fullShare} f) ∗ R) ⊢ (run c) (.op (.store m r w Finset.univ hs hm) k) Q := by
  iintro ⟨Hb, HR⟩
  iapply (wp_store 𝒱₀ (c : Thread nD τ) none Set.univ (m := m) (r := r) (Mk := Finset.univ) (Finset.subset_univ _)) $$ Hb
  iintro Hb
  iapply h
  isplitl [Hb] <;> iassumption

/-- A send, at the program's names; -/
theorem op_send (c n : Dev nD) (j : ℕ) (hj : j < 31) (hn : n = tgt c j) {sS : DmaSem sig} (hS : sS = dsem (j + 3))
    {h1 hq1 h2 hs hq2}
    {hsc : (((rcvM.slice (Rect.unit (s := S32x2x1024) (k0_off2 c) S1x2x1024.size h2) hs).squeeze S2x1024 hq2 :
      Memref sig .tc .vmem S2x1024 .f32) : Memref sig (Dev.tc n : Thread nD τ).2.kind .vmem S2x1024 .f32).view.ref.isScScratch = false}
    {hsrc : locM.view.WordExact}
    {hdst : ((rcvM.slice (Rect.unit (s := S32x2x1024) (k0_off2 c) S1x2x1024.size h2) hs).squeeze S2x1024 hq2).view.WordExact}
    {hsem} {k : PUnit → Prog (TpuEff nD τ sig (Elt F) Λ₀ .tc) α}
    (h : iprop(records loc K ∗ SND loc c (j + 1) ∗ R) ⊢ (run c) (k ⟨⟩) Q) :
    iprop(records loc K ∗ SND loc c j ∗ R)
      ⊢ (run c) (.op (.enqueueDma locM (.remote (Dev.tc n : Thread nD τ)
          ((rcvM.slice (Rect.unit (s := S32x2x1024) (k0_off2 c) S1x2x1024.size h2) hs).squeeze S2x1024 hq2) (.dma sS) hsc)
          (.dma ((cc0_scratch5.slice (Rect.unit (s := S32) (k0_off1 c) S1.size h1)).squeeze S_ hq1).sem) hsrc hdst hsem) k) Q :=
  step_send loc K c n j hj hn (slot_at c (k0_off2_eq c) h2 hs hq2) hS (recv_sem c (k0_off1_eq c) h1 hq1) h

/-- a wait for a copy received; -/
theorem op_recv (c : Dev nD) (j : ℕ) (hj : j < 31) {h1 hq1 h2 hs hq2}
    {hsrc : locM.view.WordExact}
    {hdst : ((rcvM.slice (Rect.unit (s := S32x2x1024) (k0_off4 c (BitVec.ofNat 32 j)) S1x2x1024.size h2) hs).squeeze S2x1024 hq2).view.WordExact}
    {k : PUnit → Prog (TpuEff nD τ sig (Elt F) Λ₀ .tc) α}
    (h : iprop(records loc K ∗ RCV loc c (j + 1) ∗ R) ⊢ (run c) (k ⟨⟩) Q) :
    iprop(records loc K ∗ RCV loc c j ∗ R)
      ⊢ (run c) (.op (.waitDma2 ((cc0_scratch5.slice (Rect.unit (s := S32) (k0_off3 c (BitVec.ofNat 32 j)) S1.size h1)).squeeze S_ hq1).sem locM
          ((rcvM.slice (Rect.unit (s := S32x2x1024) (k0_off4 c (BitVec.ofNat 32 j)) S1x2x1024.size h2) hs).squeeze S2x1024 hq2) hsrc hdst) k) Q :=
  step_recv loc K c j hj (slot_at _ (off4_at ⟨j, hj⟩ c) h2 hs hq2) (recv_sem _ (off3_at ⟨j, hj⟩ c) h1 hq1) h

end Ops

/-! ## Between the phases -/

section Phases

variable (loc : Dev nD → Tab F) (K : Dev nD → ℕ → ℕ)
variable {R A B : sProp (MT nD τ sig Unit (Elt F) ℕ UU ℕ)}

/-- The tokens device `c` pays its copies with. -/
def SNT (c : Dev nD) : sProp 𝕄 :=
  bigSep (Finset.Ico 0 31) fun i => iprop(dutyTok EX (sendCell c i) 0 0 ∗ dutyTok EX (recvCell (tgt c i) c) 0 0)
/-- Its credit and place for the copies it receives. -/
def RVC (c : Dev nD) : sProp 𝕄 :=
  bigSep (Finset.Ico 0 31) fun i => iprop(cred (tallyAt (recvCell c (tgt c i)) () N) ∗ atPos EX (recvCell c (tgt c i)) 0 ∅ 0)
/-- Its places on its send semaphores, -/
def SNA (c : Dev nD) : sProp 𝕄 := bigSep (Finset.Ico 0 31) fun i => atPos EX (sendCell c i) 0 ∅ 0
/-- and the credit to wait on them. -/
def SNC (c : Dev nD) : sProp 𝕄 := bigSep (Finset.Ico 0 31) fun i => cred (tallyAt (sendCell c i) () N)

/-- The slots filled by the others. -/
def SLOTS (c : Dev nD) : sProp 𝕄 := bigSep (Finset.Ico 0 31) fun i => slotPts c (tgt c i) (gbuf loc)

/-- The barrier passed and the table ready: the sends can start. -/
theorem to_send (c : Dev nD) :
    iprop(records loc K ∗ ((∃ W, owes (c : Thread nD τ) (OR c 0) W) ∗ semVal (barCell c) 0 ∗ bigSep (Finset.range 31) fun i => barPay c i)
        ∗ (locM.view.loc (c : Thread nD τ) ↦[Finset.univ]{fullShare} loc c) ∗ SNT c ∗ R)
      ⊢ iprop(records loc K ∗ SND loc c 0 ∗ semVal (barCell c) 0
          ∗ (locM.view.loc (c : Thread nD τ) ↦[Finset.univ]{Transfers.shareDrop fullShare 31} loc c) ∗ R) := by
  unfold SND SNT
  simp only [Finset.Ico_self, bigSep_empty, bigSep_sep', ← Finset.range_eq_Ico]
  iintro ⟨Hr, ⟨Ho, Hb, Hp⟩, Hl, ⟨Ht1, Ht2⟩, HR⟩
  ihave Hl2 := (Transfers.pointsTo_toks_range fullShare 31).1 $$ Hl
  icases Hl2 with ⟨Hl, Hls⟩
  isplitl [Hr]; · iexact Hr
  isplitl [Ho Hp Ht1 Ht2 Hls]
  · isplitl [Ho]; · iexact Ho
    isplitl [Hp Ht1 Ht2 Hls]
    · isplitl [Ht1]; · iexact Ht1
      isplitl [Ht2]; · iexact Ht2
      isplitl [Hls]
      · unfold locTok; rw [View.set_whole]; iexact Hls
      unfold barPay; iexact Hp
    iempintro
  isplitl [Hb]; · iexact Hb
  isplitl [Hl] <;> iassumption

/-- All sent: the waits for the others' copies can start; -/
theorem to_recv (c : Dev nD) :
    iprop(records loc K ∗ SND loc c 31 ∗ RVC c ∗ R) ⊢ iprop(records loc K ∗ RCV loc c 0 ∗ SNC c ∗ R) := by
  unfold SND RVC RCV SNC
  rw [OR_end]
  simp only [Finset.Ico_self, bigSep_empty]
  iintro ⟨Hr, ⟨Ho, -, Hc⟩, Hv, HR⟩
  isplitl [Hr]; · iexact Hr
  isplitl [Ho Hv]
  · isplitl [Ho]; · iexact Ho
    isplitl [Hv]; · iexact Hv
    iempintro
  isplitl [Hc] <;> iassumption

/-- all received: the waits for the device's own copies. -/
theorem to_sent (c : Dev nD) :
    iprop(records loc K ∗ RCV loc c 31 ∗ SNC c ∗ SNA c ∗ R)
      ⊢ iprop(records loc K ∗ SWT loc c 0 ∗ (bigSep (Finset.Ico 0 31) fun i => semVal (recvCell c (tgt c i)) 0) ∗ SLOTS loc c ∗ R) := by
  unfold RCV SWT SNC SNA SLOTS
  simp only [Finset.Ico_self, bigSep_empty]
  simp only [bigSep_sep']
  iintro ⟨Hr, ⟨Ho, -, Hz, Hs⟩, Hc, Ha, HR⟩
  isplitl [Hr]; · iexact Hr
  isplitl [Ho Hc Ha]
  · isplitl [Ho]; · iexact Ho
    isplitl [Hc Ha]
    · isplitl [Hc] <;> iassumption
    iempintro
  isplitl [Hz]; · iexact Hz
  isplitl [Hs] <;> iassumption

/-- All sends waited for: the table is whole again. -/
theorem from_sent (c : Dev nD) :
    iprop(SWT loc c 31 ∗ (locM.view.loc (c : Thread nD τ) ↦[Finset.univ]{Transfers.shareDrop fullShare 31} loc c))
      ⊢ iprop((∃ W, owes (c : Thread nD τ) 0 W) ∗ (bigSep (Finset.Ico 0 31) fun i => semVal (sendCell c i) 0)
          ∗ (locM.view.loc (c : Thread nD τ) ↦[Finset.univ]{fullShare} loc c)) := by
  unfold SWT
  simp only [Finset.Ico_self, bigSep_empty, bigSep_sep', ← Finset.range_eq_Ico]
  iintro ⟨⟨Ho, -, Hz, Hls⟩, Hl⟩
  isplitl [Ho]; · iexact Ho
  isplitl [Hz]; · iexact Hz
  iapply (Transfers.pointsTo_toks_range fullShare 31).2
  isplitl [Hl]; · iexact Hl
  unfold locTok; rw [View.set_whole]; iexact Hls

/-! ## The receive buffer, slot by slot -/

theorem tgt_self (c : Dev nD) : tgt c 31 = c := by
  have := c.isLt
  simp only [nD] at this
  apply Fin.ext; simp only [tgt_val]; omega

/-- The elements of the slot of the device `1 + j` places ahead. -/
abbrev slotSet (c : Dev nD) (j : ℕ) : Finset S32x2x1024.Idx := (slotM (tgt c j)).view.set

theorem mem_slot (s : Dev nD) (i : S32x2x1024.Idx) : i ∈ (slotM s).view.set ↔ (i 0).val = s.val := by
  constructor
  · intro hi
    obtain ⟨j, -, rfl⟩ := Finset.mem_map.mp hi
    obtain ⟨a, b, rfl⟩ := tab_ix j
    rw [slot_emb]
  · intro h
    have e : i = (slotM s).view.emb (ix2 (i 1) (i 2)) := by
      refine Eq.trans ?_ (slot_emb s (i 1) (i 2)).symm
      funext a
      fin_cases a
      · exact Fin.ext h
      · rfl
      · rfl
    rw [e]; exact View.emb_mem_set _ _

theorem slots_disjoint (c : Dev nD) : ∀ t ∈ Finset.range 32, ∀ t' ∈ Finset.range 32, t ≠ t' → Disjoint (slotSet c t) (slotSet c t') := by
  intro t ht t' ht' hne
  rw [Finset.disjoint_left]
  intro i hi hi'
  have h1 := (mem_slot _ i).mp hi
  have h2 := (mem_slot _ i).mp hi'
  have := c.isLt
  simp only [nD] at this
  rw [Finset.mem_range] at ht ht'
  simp only [tgt_val] at h1 h2
  omega

theorem slots_cover (c : Dev nD) : (Finset.range 32).biUnion (slotSet c) = Finset.univ := by
  refine Finset.eq_univ_of_forall fun i => Finset.mem_biUnion.mpr ?_
  by_cases h : (i 0).val = c.val
  · exact ⟨31, by simp, (mem_slot _ i).mpr (by rw [tgt_self]; exact h)⟩
  · obtain ⟨j, hj, e⟩ := exists_tgt (c := c) (s := i 0) fun h' => h (congrArg Fin.val h')
    exact ⟨j, Finset.mem_range.mpr (by omega), (mem_slot _ i).mpr (by rw [e])⟩

omit [FloatOps F] in
/-- The buffer falls into the others' slots and the device's own; -/
theorem slots_split (c : Dev nD) (f : Buf (Elt F) (rcvM.view.loc (c : Thread nD τ))) :
    (rcvM.view.loc (c : Thread nD τ) ↦[Finset.univ]{fullShare} f : sProp 𝕄)
      ⊢ iprop((bigSep (Finset.Ico 0 31) fun i => iprop(∃ f, slotPts c (tgt c i) f)) ∗ slotPts c c f) := by
  rw [← slots_cover c, pointsTo_biUnion _ _ (slots_disjoint c), bigSep_range_succ, ← Finset.range_eq_Ico]
  have h0 (i : ℕ) : (rcvM.view.loc (c : Thread nD τ) ↦[slotSet c i]{fullShare} f : sProp 𝕄) ⊢ iprop(∃ f, slotPts c (tgt c i) f) := by
    unfold slotPts; iintro H; iexists f; iexact H
  have h1 : (bigSep (Finset.range 31) fun t => (rcvM.view.loc (c : Thread nD τ) ↦[slotSet c t]{fullShare} f : sProp 𝕄))
      ⊢ bigSep (Finset.range 31) fun i => iprop(∃ f, slotPts c (tgt c i) f) :=
    bigSep_mono fun i _ => h0 i
  have h2 : (rcvM.view.loc (c : Thread nD τ) ↦[slotSet c 31]{fullShare} f : sProp 𝕄) ⊢ slotPts c c f := by
    unfold slotPts slotSet; rw [tgt_self]
  iintro ⟨Hown, Hs⟩
  isplitl [Hs]
  · iapply h1; iexact Hs
  · iapply h2; iexact Hown

/-- and is put together again, the device's own slot holding anything. -/
theorem slots_join (c : Dev nD) (f : Buf (Elt F) (rcvM.view.loc (c : Thread nD τ))) :
    iprop(SLOTS loc c ∗ slotPts c c f)
      ⊢ (iprop(∃ g : Buf (Elt F) (rcvM.view.loc (c : Thread nD τ)), ⌜∀ (s : Fin 32) (a : Fin 2) (y : Fin 1024), s.val ≠ c.val → g (ix3 s a y) = gbuf loc (ix3 s a y)⌝
          ∗ rcvM.view.loc (c : Thread nD τ) ↦[Finset.univ]{fullShare} g) : sProp 𝕄) := by
  have e : iprop(SLOTS loc c ∗ slotPts c c f)
      ⊢ (bigSep (Finset.range 32) fun t => rcvM.view.loc (c : Thread nD τ) ↦[slotSet c t]{fullShare} (if t < 31 then gbuf loc else f) : sProp 𝕄) := by
    rw [bigSep_range_succ]
    unfold SLOTS
    rw [← Finset.range_eq_Ico]
    have h1 : (bigSep (Finset.range 31) fun i => (slotPts c (tgt c i) (gbuf loc) : sProp 𝕄))
        ⊢ bigSep (Finset.range 31) fun t => (rcvM.view.loc (c : Thread nD τ) ↦[slotSet c t]{fullShare} (if t < 31 then gbuf loc else f) : sProp 𝕄) :=
      bigSep_mono fun i hi => by
        rw [if_pos (Finset.mem_range.mp hi)]; unfold slotPts; exact .refl _
    have h2 : (slotPts c c f : sProp 𝕄) ⊢ (rcvM.view.loc (c : Thread nD τ) ↦[slotSet c 31]{fullShare} (if 31 < 31 then gbuf loc else f) : sProp 𝕄) := by
      rw [if_neg (by decide)]; unfold slotPts slotSet; rw [tgt_self]
    iintro ⟨Hs, Hown⟩
    isplitl [Hown]
    · iapply h2; iexact Hown
    · iapply h1; iexact Hs
  refine e.trans ((pointsTo_biUnion_join _ _ _ f (slots_disjoint c)).trans ?_)
  rw [slots_cover c]
  iintro ⟨%g, %hg, H⟩
  iexists g
  isplitr
  · ipureintro
    intro s a y hs
    obtain ⟨j, hj, e⟩ := exists_tgt (c := c) (s := s) fun h' => hs (congrArg Fin.val h')
    refine (hg j (Finset.mem_range.mpr (by omega)) (ix3 s a y) ((mem_slot _ _).mpr (by rw [e]))).trans ?_
    rw [if_pos hj]
  · iexact H

end Phases

end Cert.Exchange

end
-- ==== Proof.Body.lean ====
/-
# The kernel's body, run from beginning to end

The program is taken one operation at a time by the lemmas of the phases. It ends with everything the device started
from put back, every semaphore at zero, and the result `outAt` in the output buffer.
-/
module

public import proofs.«01_k».proof.Proof.Moves

@[expose] public section

noncomputable section

namespace Cert.Exchange

open Cert.KernelIdeal Cert.KernelIdeal.Gen

open Idealize.ShloMosaic
open Idealize.ShloMosaic.ValueIdx (ix1 ix2 ix3)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's own table, its receive buffer and its output buffer, held whole. -/
def LOC (c : Dev nD) (f : Buf (Elt F) (locM.view.loc (c : Thread nD τ))) : sProp 𝕄 :=
  locM.view.loc (c : Thread nD τ) ↦[Finset.univ]{fullShare} f
def RCB (c : Dev nD) (f : Buf (Elt F) (rcvM.view.loc (c : Thread nD τ))) : sProp 𝕄 :=
  rcvM.view.loc (c : Thread nD τ) ↦[Finset.univ]{fullShare} f
def OUT (c : Dev nD) (f : Buf (Elt F) (outM.view.loc (c : Thread nD τ))) : sProp 𝕄 :=
  outM.view.loc (c : Thread nD τ) ↦[Finset.univ]{fullShare} f

/-- The semaphores between devices, at zero. -/
def ZEROS (c : Dev nD) : sProp 𝕄 :=
  iprop((bigSep (Finset.Ico 0 31) fun i => semVal (sendCell c i) 0) ∗ (bigSep (Finset.Ico 0 31) fun i => semVal (recvCell c (tgt c i)) 0)
    ∗ semVal (recvCell c c) 0)

/-- What the body ends with. -/
def DONE (X : Dev nD → Arg F) (c : Dev nD) : sProp 𝕄 :=
  iprop((∃ W, owes (c : Thread nD τ) 0 W) ∗ (∃ f, XI (X c) c 0 f) ∗ (∃ f, XI (X c) c 1 f) ∗ (∃ f, LOC c f) ∗ (∃ f, RCB c f)
    ∗ semVal (barCell c) 0 ∗ ZEROS c ∗ OUT c (outAt X c))

section Run

variable (X : Dev nD → Arg F) (K : Dev nD → ℕ → ℕ)
variable {α : Type} {Q : α → sProp (MT nD τ sig Unit (Elt F) ℕ UU ℕ)}
  {R A B C D E G : sProp (MT nD τ sig Unit (Elt F) ℕ UU ℕ)}

local notation "run" c => wp frame (wpE (defs₀ (F := F)) 𝒱₀ ((c : Dev nD) : Thread nD τ) none) Set.univ

/-- Before the table is stored: its buffer comes to the front. -/
theorem at_store (c : Dev nD) {f} {p : Prog (TpuEff nD τ sig (Elt F) Λ₀ .tc) α}
    (h : iprop((locM.view.loc (c : Thread nD τ) ↦[Finset.univ]{fullShare} f) ∗ (A ∗ B ∗ C ∗ D ∗ R)) ⊢ (run c) p Q) :
    iprop(A ∗ B ∗ C ∗ D ∗ (LOC c f ∗ R)) ⊢ (run c) p Q := by
  unfold LOC
  iintro ⟨H1, H2, H3, H4, H5, H6⟩
  iapply h
  isplitl [H5]; · iexact H5
  isplitl [H1]; · iexact H1
  isplitl [H2]; · iexact H2
  isplitl [H3]; · iexact H3
  isplitl [H4] <;> iassumption

/-- The table stored: on to the barrier. -/
theorem at_barrier (c : Dev nD) {f} {p : Prog (TpuEff nD τ sig (Elt F) Λ₀ .tc) α} (hf : f = locs X c)
    (h : iprop(records (locs X) K ∗ (A ∗ D ∗ E)
      ∗ ((locM.view.loc (c : Thread nD τ) ↦[Finset.univ]{fullShare} locs X c) ∗ G ∗ (B ∗ C ∗ R))) ⊢ (run c) p Q) :
    iprop((locM.view.loc (c : Thread nD τ) ↦[Finset.univ]{fullShare} f) ∗ (records (locs X) K ∗ A ∗ B ∗ C ∗ (D ∗ E ∗ G ∗ R)))
      ⊢ (run c) p Q := by
  subst hf
  iintro ⟨H1, Hr, H2, H3, H4, H5, H6, H7, H8⟩
  iapply h
  isplitl [Hr]; · iexact Hr
  isplitl [H2 H5 H6]
  · isplitl [H2]; · iexact H2
    isplitl [H5] <;> iassumption
  isplitl [H1]; · iexact H1
  isplitl [H7]; · iexact H7
  isplitl [H3]; · iexact H3
  isplitl [H4] <;> iassumption

/-- The barrier passed: on to the sends. -/
theorem at_send (c : Dev nD) {p : Prog (TpuEff nD τ sig (Elt F) Λ₀ .tc) α}
    (h : iprop(records (locs X) K ∗ SND (locs X) c 0 ∗ semVal (barCell c) 0
          ∗ (locM.view.loc (c : Thread nD τ) ↦[Finset.univ]{Transfers.shareDrop fullShare 31} locs X c) ∗ R) ⊢ (run c) p Q) :
    iprop(records (locs X) K ∗ ((∃ W, owes (c : Thread nD τ) (OR c 0) W) ∗ semVal (barCell c) 0 ∗ bigSep (Finset.range 31) fun i => barPay c i)
        ∗ ((locM.view.loc (c : Thread nD τ) ↦[Finset.univ]{fullShare} locs X c) ∗ SNT c ∗ R)) ⊢ (run c) p Q :=
  (to_send (locs X) K c).trans h

/-- All sent: on to the waits for the others' copies. -/
theorem at_recv (c : Dev nD) {p : Prog (TpuEff nD τ sig (Elt F) Λ₀ .tc) α}
    (h : iprop(records (locs X) K ∗ RCV (locs X) c 0 ∗ SNC c ∗ (A ∗ B ∗ C ∗ D ∗ R)) ⊢ (run c) p Q) :
    iprop(records (locs X) K ∗ SND (locs X) c 31 ∗ A ∗ B ∗ (C ∗ D ∗ RVC c ∗ R)) ⊢ (run c) p Q := by
  refine BIBase.Entails.trans ?_ ((to_recv (locs X) K c (R := iprop(A ∗ B ∗ C ∗ D ∗ R))).trans h)
  iintro ⟨Hr, H1, H2, H3, H4, H5, H6, H7⟩
  isplitl [Hr]; · iexact Hr
  isplitl [H1]; · iexact H1
  isplitl [H6]; · iexact H6
  isplitl [H2]; · iexact H2
  isplitl [H3]; · iexact H3
  isplitl [H4]; · iexact H4
  isplitl [H5] <;> iassumption

/-- All received: on to the waits for the device's own copies. -/
theorem at_sent (c : Dev nD) {p : Prog (TpuEff nD τ sig (Elt F) Λ₀ .tc) α}
    (h : iprop(records (locs X) K ∗ SWT (locs X) c 0 ∗ (bigSep (Finset.Ico 0 31) fun i => semVal (recvCell c (tgt c i)) 0)
        ∗ SLOTS (locs X) c ∗ (A ∗ B ∗ C ∗ D ∗ R)) ⊢ (run c) p Q) :
    iprop(records (locs X) K ∗ RCV (locs X) c 31 ∗ SNC c ∗ (A ∗ B ∗ C ∗ D ∗ (SNA c ∗ R))) ⊢ (run c) p Q := by
  refine BIBase.Entails.trans ?_ ((to_sent (locs X) K c (R := iprop(A ∗ B ∗ C ∗ D ∗ R))).trans h)
  iintro ⟨Hr, H1, H2, H3, H4, H5, H6, H7, H8⟩
  isplitl [Hr]; · iexact Hr
  isplitl [H1]; · iexact H1
  isplitl [H2]; · iexact H2
  isplitl [H7]; · iexact H7
  isplitl [H3]; · iexact H3
  isplitl [H4]; · iexact H4
  isplitl [H5]; · iexact H5
  isplitl [H6] <;> iassumption

/-- All sends waited for: the receive buffer is put together. Its own slot holds anything, and the result does not
    depend on that. -/
theorem at_load (c : Dev nD) {fs} {p : Prog (TpuEff nD τ sig (Elt F) Λ₀ .tc) α}
    (h : ∀ g : Buf (Elt F) (rcvM.view.loc (c : Thread nD τ)), outOf X c g = outAt X c →
      iprop((rcvM.view.loc (c : Thread nD τ) ↦[Finset.univ]{fullShare} g)
        ∗ (D ∗ (records (locs X) K ∗ ((∃ W, owes (c : Thread nD τ) 0 W) ∗ (bigSep (Finset.Ico 0 31) fun i => semVal (sendCell c i) 0)
          ∗ (locM.view.loc (c : Thread nD τ) ↦[Finset.univ]{fullShare} locs X c))
          ∗ (bigSep (Finset.Ico 0 31) fun i => semVal (recvCell c (tgt c i)) 0) ∗ semVal (barCell c) 0 ∗ A ∗ B ∗ C ∗ R))) ⊢ (run c) p Q) :
    iprop(records (locs X) K ∗ SWT (locs X) c 31 ∗ (bigSep (Finset.Ico 0 31) fun i => semVal (recvCell c (tgt c i)) 0) ∗ SLOTS (locs X) c
      ∗ (semVal (barCell c) 0 ∗ (locM.view.loc (c : Thread nD τ) ↦[Finset.univ]{Transfers.shareDrop fullShare 31} locs X c)
        ∗ A ∗ B ∗ (slotPts c c fs ∗ C ∗ D ∗ R)))
      ⊢ (run c) p Q := by
  iintro ⟨Hr, Hw, Hz, Hs, Hb, Hl, HA, HB, Ho, HC, HD, HR⟩
  ihave Hg := (slots_join (locs X) c fs) $$ [Hs Ho]
  · isplitl [Hs] <;> iassumption
  icases Hg with ⟨%g, %hg, Hg⟩
  ihave Hw := (from_sent (locs X) c) $$ [Hw Hl]
  · isplitl [Hw] <;> iassumption
  iapply (h g (outOf_congr X c g _ hg))
  isplitl [Hg]; · iexact Hg
  isplitl [HD]; · iexact HD
  isplitl [Hr]; · iexact Hr
  isplitl [Hw]; · iexact Hw
  isplitl [Hz]; · iexact Hz
  isplitl [Hb]; · iexact Hb
  isplitl [HA]; · iexact HA
  isplitl [HB]; · iexact HB
  isplitl [HC] <;> iassumption

/-- The receive buffer read: the output buffer comes to the front. -/
theorem at_out (c : Dev nD) {f} {p : Prog (TpuEff nD τ sig (Elt F) Λ₀ .tc) α}
    (h : iprop((outM.view.loc (c : Thread nD τ) ↦[Finset.univ]{fullShare} f) ∗ (A ∗ R)) ⊢ (run c) p Q) :
    iprop(A ∗ (OUT c f ∗ R)) ⊢ (run c) p Q := by
  unfold OUT
  iintro ⟨HA, Ho, HR⟩
  iapply h
  isplitl [Ho]; · iexact Ho
  isplitl [HA] <;> iassumption

/-- The end: the device's own receive semaphore, never used, is put back too. -/
theorem at_end (c : Dev nD) {f f0 f1 g} {a : α} (hf : f = outAt X c) (h : iprop(DONE X c ∗ R) ⊢ Q a) :
    iprop((outM.view.loc (c : Thread nD τ) ↦[Finset.univ]{fullShare} f) ∗ ((rcvM.view.loc (c : Thread nD τ) ↦[Finset.univ]{fullShare} g)
      ∗ (records (locs X) K ∗ ((∃ W, owes (c : Thread nD τ) 0 W) ∗ (bigSep (Finset.Ico 0 31) fun i => semVal (sendCell c i) 0)
          ∗ (locM.view.loc (c : Thread nD τ) ↦[Finset.univ]{fullShare} locs X c))
        ∗ (bigSep (Finset.Ico 0 31) fun i => semVal (recvCell c (tgt c i)) 0) ∗ semVal (barCell c) 0
        ∗ XI (X c) c 0 f0 ∗ XI (X c) c 1 f1 ∗ atPos EX (recvCell c c) 0 ∅ 0 ∗ R)))
      ⊢ (run c) (.ret a) Q := by
  subst hf
  rw [wp_ret]
  iintro ⟨Ho, Hg, #Hr, ⟨Hw, Hzs, Hl⟩, Hzr, Hb, H0, H1, Hat, HR⟩
  imod (Rounds.cell_close EX (sched (locs X)) (Set.mem_univ (K c (c.val + 32))) (fun h => h) (R := 0) (duties_own_all (locs X) c)) $$ [Hat] with Hz
  · isplitr; · iapply (inv_recv (locs X) K c c); iexact Hr
    iexact Hat
  imodintro
  iapply h
  unfold DONE ZEROS LOC RCB OUT
  isplitr [HR]
  · isplitl [Hw]; · iexact Hw
    isplitl [H0]; · iexists _; iexact H0
    isplitl [H1]; · iexists _; iexact H1
    isplitl [Hl]; · iexists _; iexact Hl
    isplitl [Hg]; · iexists _; iexact Hg
    isplitl [Hb]; · iexact Hb
    isplitl [Hzs Hzr Hz]
    · isplitl [Hzs]; · iexact Hzs
      isplitl [Hzr] <;> iassumption
    iexact Ho
  iexact HR

set_option maxRecDepth 20000 in
/-- The body. -/
theorem body_run (c : Dev nD) {f0 f1 fl fs fo} {Q : PUnit → sProp (MT nD τ sig Unit (Elt F) ℕ UU ℕ)} (h : iprop(DONE X c ∗ R) ⊢ Q ⟨⟩) :
    iprop(records (locs X) K ∗ SIG c 0 ∗ XI (X c) c 0 f0 ∗ XI (X c) c 1 f1
        ∗ (LOC c fl ∗ (cred (tallyAt (barCell c) () 31) ∗ atPos EX (barCell c) 0 ∅ 0 ∗ SNT c
          ∗ (RVC c ∗ SNA c ∗ slotPts c c fs ∗ atPos EX (recvCell c c) 0 ∅ 0 ∗ OUT c fo ∗ R))))
      ⊢ (run c) (cc0_body (F := F) argM (Memref.isWhole_whole _) outM (Memref.isWhole_whole _) locM (Memref.isWhole_whole _)
          xbufM (Memref.isWhole_whole _) rcvM (Memref.isWhole_whole _) cc0_scratch3 cc0_scratch4 cc0_scratch5) Q := by
  rw [cc0_body_eq_skeleton]
  unfold cc0_body_skel
  rw [k0_part60_eq_skeleton]
  unfold k0_part60_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  refine op_dev c ?_
  refine op_copy0 (locs X) K (X c) c 0 rfl ?_
  iterate 31 refine step_signal (locs X) K c _ _ (by decide) (Fin.ext (by clear * - c; revert c; decide +kernel)) rfl ?_
  refine op_copy1 (locs X) K (X c) c 256 rfl ?_
  refine op_landed0 (locs X) K (X c) c 0 rfl ?_
  refine op_blk0 (locs X) K (X c) c 0 ?_
  refine op_copy0 (locs X) K (X c) c 512 rfl ?_
  refine op_landed1 (locs X) K (X c) c 256 rfl ?_
  refine op_blk1 (locs X) K (X c) c 256 ?_
  refine op_copy1 (locs X) K (X c) c 768 rfl ?_
  refine op_landed0 (locs X) K (X c) c 512 rfl ?_
  refine op_blk0 (locs X) K (X c) c 512 ?_
  refine op_copy0 (locs X) K (X c) c 1024 rfl ?_
  refine op_landed1 (locs X) K (X c) c 768 rfl ?_
  refine op_blk1 (locs X) K (X c) c 768 ?_
  refine op_copy1 (locs X) K (X c) c 1280 rfl ?_
  refine op_landed0 (locs X) K (X c) c 1024 rfl ?_
  refine op_blk0 (locs X) K (X c) c 1024 ?_
  refine op_copy0 (locs X) K (X c) c 1536 rfl ?_
  refine op_landed1 (locs X) K (X c) c 1280 rfl ?_
  refine op_blk1 (locs X) K (X c) c 1280 ?_
  refine op_copy1 (locs X) K (X c) c 1792 rfl ?_
  refine op_landed0 (locs X) K (X c) c 1536 rfl ?_
  refine op_blk0 (locs X) K (X c) c 1536 ?_
  refine op_landed1 (locs X) K (X c) c 1792 rfl ?_
  refine op_blk1 (locs X) K (X c) c 1792 ?_
  refine at_store c ?_
  refine op_load c locM ?_
  refine op_store c locM ?_
  refine op_load c locM ?_
  refine op_store c locM ?_
  refine at_barrier X K c ((loc_rows _ _ _).trans ?_) ?_
  · show _ = locTab (X c) c
    unfold locTab
    simp only [accM, accI]
    rfl
  refine step_barrier (locs X) K c rfl ?_
  refine at_send X K c ?_
  iterate 31 refine op_send (locs X) K c _ _ (by decide) (Fin.ext (by clear * - c; revert c; decide +kernel)) rfl ?_
  refine at_recv X K c ?_
  iterate 31 refine op_recv (locs X) K c _ (by decide) ?_
  refine at_sent X K c ?_
  iterate 31 refine step_sent (locs X) K c _ (by decide) rfl ?_
  refine at_load X K c fun g hg => ?_
  refine op_load c rcvM ?_
  refine op_load c rcvM ?_
  refine at_out c ?_
  refine op_load c outM ?_
  refine op_store c outM ?_
  refine op_load c outM ?_
  refine op_store c outM ?_
  refine at_end X K c ((out_rows _ _ _).trans (Eq.trans ?_ hg)) h
  unfold outOf
  simp only [accM, accI]
  rfl

end Run

end Cert.Exchange

end
-- ==== Proof.Deal.lean ====
/-
# What each device is dealt at launch

Every cell of the exchange gets its invariant, every device its places in the rounds of its own cells and the tokens
of the signals and copies it makes itself. Tokens are numbered by the device that pays with them, so nothing has to
change hands afterwards. The credit a device holds is what the others owe it: one unit of its barrier from each, and
one copied table on each receive semaphore but its own.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin_eq_range)

variable {F : FTy → Type} [FloatOps F]

local notation "𝕄" => MT nD τ sig Unit (Elt F) ℕ UU ℕ

/-! ## Families over the cells of a device, by kind -/

section Families
variable {M : Type} [URA M]

theorem bigSep_shift (a b d : ℕ) (A : ℕ → sProp M) :
    bigSep (Finset.Ico (a + d) (b + d)) A = bigSep (Finset.Ico a b) fun i => A (i + d) := by
  have e : Finset.Ico (a + d) (b + d) = (Finset.Ico a b).map ⟨fun i => i + d, fun i j h => Nat.add_right_cancel h⟩ := by
    ext x
    simp only [Finset.mem_map, Finset.mem_Ico, Function.Embedding.coeFn_mk]
    refine ⟨fun h => ⟨x - d, by omega, show x - d + d = x by omega⟩, ?_⟩
    rintro ⟨i, h, e⟩
    have e' : i + d = x := e
    omega
  rw [e, bigSep_map]; rfl

theorem bigSep_cut {a b d : ℕ} (h1 : a ≤ b) (h2 : b ≤ d) (A : ℕ → sProp M) :
    bigSep (Finset.Ico a d) A = iprop(bigSep (Finset.Ico a b) A ∗ bigSep (Finset.Ico b d) A) := by
  rw [← Finset.Ico_union_Ico_eq_Ico h1 h2, bigSep_union (Finset.Ico_disjoint_Ico_consecutive a b d)]
  rfl

theorem dist_bij (c : Dev nD) : Function.Bijective fun i : Fin 32 => tgt c i.val := by
  have h : Function.Injective fun i : Fin 32 => tgt c i.val := by
    rintro ⟨i, hi⟩ ⟨j, hj⟩ h
    have hc := c.isLt
    simp only [nD] at hc
    have := congrArg Fin.val h
    simp only [tgt_val] at this
    apply Fin.ext; show i = j; omega
  exact ⟨h, Finite.surjective_of_injective (α := Fin 32) h⟩

/-- A family over all devices: at `c`, and at the others by their distance from `c`. -/
theorem by_distance (c : Dev nD) (Φ : Dev nD → sProp M) :
    bigSep Finset.univ Φ = iprop(Φ c ∗ bigSep (Finset.Ico 0 31) fun i => Φ (tgt c i)) := by
  rw [bigSep_univ_equiv (Equiv.ofBijective _ (dist_bij c)) Φ,
    bigSep_fin_eq_range 32 _ (fun i => Φ (tgt c i)) (fun _ _ => rfl), bigSep_range_succ, tgt_self, Finset.range_eq_Ico]

/-- A family over the cells of device `c` but its barrier. -/
theorem by_kind (c : Dev nD) (Φ : GSem nD τ sig → sProp M) :
    bigSep (Finset.Ico 1 64) (fun k => Φ (kcell c k))
      = iprop((bigSep (Finset.Ico 0 31) fun i => Φ (sendCell c i))
        ∗ Φ (recvCell c c) ∗ bigSep (Finset.Ico 0 31) fun i => Φ (recvCell c (tgt c i))) := by
  rw [bigSep_cut (b := 32) (by decide) (by decide), bigSep_shift 0 31 1, bigSep_shift 0 32 32,
    ← by_distance c (fun s => Φ (recvCell c s)), ← Finset.range_eq_Ico (a := 32),
    bigSep_fin_eq_range 32 (fun s : Dev nD => Φ (recvCell c s)) (fun k => Φ (kcell c (k + 32))) (fun _ _ => rfl)]
  rfl

/-- A family over all the cells of device `c`. -/
theorem with_bar (c : Dev nD) (A : ℕ → sProp M) : bigSep (Finset.range 64) A = iprop(A 0 ∗ bigSep (Finset.Ico 1 64) A) := by
  rw [Finset.range_eq_Ico, bigSep_Ico_succ_bot (by decide)]

end Families

/-! ## The cells and the tokens -/

abbrev cellAt (ck : Dev nD × Fin 64) : GSem nD τ sig := kcell ck.1 ck.2.val

theorem cellAt_injective : Function.Injective cellAt := by
  rintro ⟨c, k, hk⟩ ⟨c', k', hk'⟩ h
  have hc : c = c' := by
    have := congrArg (fun g : GSem nD τ sig => g.1.1) h
    cases k <;> cases k' <;> exact this
  subst hc
  have h2 := congrArg Prod.snd h
  have : k = k' := by
    rcases k with _ | k <;> rcases k' with _ | k'
    · rfl
    · exact absurd h2 (fun h => by cases h)
    · exact absurd h2 (fun h => by cases h)
    · have h3 : dsem (k + 3) = dsem (k' + 3) := SemLoc.dma.inj h2
      have h4 := congrArg Fin.val h3
      rw [dsem_val (by omega), dsem_val (by omega)] at h4
      omega
  subst this; rfl

def exchangeCells : Finset (GSem nD τ sig) := Finset.univ.map ⟨cellAt, cellAt_injective⟩

/-- The tokens device `c` pays with: by kind (a barrier signal, a copy landing at its target, a copy landing here) and
    by number. -/
def tokAt (cj : Dev nD × (Fin 3 × Fin 31)) : GSem nD τ sig × ℕ × ℕ :=
  match cj.2.1 with
  | 0 => (barCell (tgt cj.1 cj.2.2.val), 0, 30 - cj.2.2.val)
  | 1 => (recvCell (tgt cj.1 cj.2.2.val) cj.1, 0, 0)
  | 2 => (sendCell cj.1 cj.2.2.val, 0, 0)

theorem dma_eq {a b : ℕ} (ha : a < 66) (hb : b < 66) (h : (SemLoc.dma (dsem a) : SemLoc sig) = .dma (dsem b)) : a = b := by
  have h4 := congrArg Fin.val (SemLoc.dma.inj h)
  rwa [dsem_val ha, dsem_val hb] at h4

theorem tokAt_injective : Function.Injective tokAt := by
  rintro ⟨c, t, i, hi⟩ ⟨c', t', i', hi'⟩ h
  have hc := c.isLt
  have hc' := c'.isLt
  simp only [nD] at hc hc'
  have hd := congrArg (fun x : GSem nD τ sig × ℕ × ℕ => x.1.1.1.val) h
  have hs := congrArg (fun x : GSem nD τ sig × ℕ × ℕ => x.1.2) h
  have hn := congrArg (fun x : GSem nD τ sig × ℕ × ℕ => x.2.2) h
  have key : t = t' ∧ c.val = c'.val ∧ i = i' := by
    fin_cases t <;> fin_cases t' <;> simp only [tokAt, Fin.zero_eta, Fin.mk_one, Fin.reduceFinMk, tgt_val] at hd hs hn
    · exact ⟨rfl, by omega, by omega⟩
    · exact absurd hs (fun h => by cases h)
    · exact absurd hs (fun h => by cases h)
    · exact absurd hs (fun h => by cases h)
    · have := dma_eq (by omega) (by omega) hs
      exact ⟨rfl, by omega, by omega⟩
    · have := dma_eq (by omega) (by omega) hs
      omega
    · exact absurd hs (fun h => by cases h)
    · have := dma_eq (by omega) (by omega) hs
      omega
    · have := dma_eq (by omega) (by omega) hs
      exact ⟨rfl, by omega, by omega⟩
  obtain ⟨rfl, h1, rfl⟩ := key
  obtain rfl : c = c' := Fin.ext h1
  rfl

def exchangeToks : Finset (GSem nD τ sig × ℕ × ℕ) := Finset.univ.map ⟨tokAt, tokAt_injective⟩

def u₀ : UU :=
  (initOf (Pipeline.cells cfgs cellOf_inj) (Pipeline.launchToks cfgs cellOf_inj), (initOf exchangeCells exchangeToks, 1))

/-- The tokens device `c` pays with. -/
def payToks (c : Dev nD) : sProp 𝕄 :=
  iprop((bigSep (Finset.Ico 0 31) fun i => dutyTok EX (barCell (tgt c i)) 0 (30 - i))
    ∗ (bigSep (Finset.Ico 0 31) fun i => dutyTok EX (recvCell (tgt c i) c) 0 0)
    ∗ bigSep (Finset.Ico 0 31) fun i => dutyTok EX (sendCell c i) 0 0)

/-- Its places in the rounds of its own cells. -/
def places (c : Dev nD) : sProp 𝕄 := bigSep (Finset.range 64) fun k => atPos EX (kcell c k) 0 ∅ 0

/-- The two semaphores of its copies from `x`, at zero. -/
def copySems (c : Dev nD) : sProp 𝕄 :=
  iprop(semVal ((c : Thread nD τ), .dma (dsem 1)) 0 ∗ semVal ((c : Thread nD τ), .dma (dsem 2)) 0)

section Deal
variable (loc : Dev nD → Tab F)

def G (c : Dev nD) : sProp 𝕄 :=
  iprop((bigSep Finset.univ fun k : Fin 64 => roundState EX (sched loc) (cellAt (c, k)) 0)
    ∗ (bigSep Finset.univ fun k : Fin 64 => iprop(atPos EX (cellAt (c, k)) 0 ∅ 0 ∗ reached EX (cellAt (c, k)) 0)) ∗ payToks c)

/-- The shared records but for the levels. -/
def shared (K : Dev nD → ℕ → ℕ) : sProp 𝕄 :=
  iprop((bigSep Finset.univ fun c : Dev nD => bigSep (Finset.range 64) fun k => cellInv EX (sched loc) (K c k) (kcell c k))
    ∗ (bigSep Finset.univ fun c : Dev nD => bigSep (Finset.range 64) fun k => reached EX (kcell c k) 0))

instance shared_persistent (K : Dev nD → ℕ → ℕ) : BI.Persistent (shared loc K) := by unfold shared; infer_instance

/-- What device `c` is dealt. -/
def G' (c : Dev nD) : sProp 𝕄 := iprop(∃ K, shared loc K ∗ (places c ∗ copySems c ∗ payToks c))

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem by_number (D : ℕ → sProp 𝕄) : bigSep Finset.univ (fun i : Fin 31 => D i.val) = bigSep (Finset.Ico 0 31) D := by
  rw [bigSep_fin_eq_range 31 _ D (fun _ _ => rfl), Finset.range_eq_Ico]

omit [FloatOps F] in
theorem toks_dealt : bigSep exchangeToks (fun x => (dutyTok EX x.1 x.2.1 x.2.2 : sProp 𝕄)) = bigSep Finset.univ fun c : Dev nD => payToks c := by
  unfold exchangeToks
  rw [bigSep_map, bigSep_univ_prod]
  refine bigSep_congr fun c _ => ?_
  rw [bigSep_univ_prod, bigSep_three]
  unfold payToks
  rw [← by_number, ← by_number, ← by_number]
  rfl

omit [FloatOps F] in
theorem fund_exchange : BI.own (EX (initOf exchangeCells exchangeToks)) ⊢ (|==> bigSep Finset.univ (G loc) : sProp 𝕄) := by
  have hX (Φ : GSem nD τ sig → sProp 𝕄) :
      bigSep exchangeCells Φ = bigSep Finset.univ fun c : Dev nD => bigSep Finset.univ fun k : Fin 64 => Φ (cellAt (c, k)) := by
    unfold exchangeCells; rw [bigSep_map, bigSep_univ_prod]; rfl
  iintro HX
  imod (Rounds.fund EX (sched loc) exchangeCells exchangeToks) $$ HX with ⟨Hst, Hr, Hat, Htok⟩
  imodintro
  ihave Hst' := (Entails.of_eq (hX fun g => roundState EX (sched loc) g 0)) $$ Hst
  ihave Hat' := (Entails.of_eq (hX fun g => atPos EX g 0 ∅ 0)) $$ Hat
  ihave Hr' := (Entails.of_eq (hX fun g => reached EX g 0)) $$ Hr
  ihave Htok' := (Entails.of_eq toks_dealt) $$ Htok
  unfold G; simp only [bigSep_sep']
  isplitl [Hst']; · iexact Hst'
  isplitl [Hat' Hr']
  · isplitl [Hat'] <;> iassumption
  iexact Htok'

/-! ## The semaphores a kernel has for itself -/

abbrev osem (k : Fin 65) : SemLoc sig := .dma (dsem (k.val + 1))

theorem ownSemFacts : Pipeline.OwnSemFacts cfg0.spec osem := by decide

omit [FloatOps F] in
theorem ownSems_eq (c : Dev nD) : (Pipeline.ownSems0 (Ix := Unit) (Name := ℕ) (U := UU) (Lvl := ℕ) (Val := Elt F) (τ := τ) osem c : sProp 𝕄)
    = iprop(copySems c ∗ bigSep (Finset.Ico 1 64) fun k => semVal (kcell c k) 0) := by
  unfold Pipeline.ownSems0 copySems
  rw [bigSep_fin_eq_range 65 _ (fun n => semVal ((c : Thread nD τ), .dma (dsem (n + 1))) 0) (fun _ _ => rfl),
    Finset.range_eq_Ico, bigSep_Ico_succ_bot (by decide), bigSep_Ico_succ_bot (by decide), bigSep_shift 1 64 1]
  have e : (bigSep (Finset.Ico 1 64) fun i => (semVal ((c : Thread nD τ), .dma (dsem (i + 1 + 1))) 0 : sProp 𝕄))
      = bigSep (Finset.Ico 1 64) fun k => semVal (kcell c k) 0 := bigSep_congr fun k hk => by
    obtain ⟨j, rfl⟩ : ∃ j, k = j + 1 := ⟨k - 1, by have := (Finset.mem_Ico.mp hk).1; omega⟩
    rfl
  rw [e]
  exact (BI.equiv_iff.mp ⟨BI.sep_assoc, BI.sep_assoc'⟩).symm

omit [FloatOps F] in
theorem unscopedSems_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem zeros_give (c : Dev nD) :
    iprop(copySems c ∗ ZEROS c) ⊢ (Pipeline.ownSems0 (Ix := Unit) (Name := ℕ) (U := UU) (Lvl := ℕ) (Val := Elt F) (τ := τ) osem c : sProp 𝕄) := by
  rw [ownSems_eq, by_kind c (fun g => semVal g 0)]
  unfold ZEROS
  iintro ⟨H, H1, H2, H3⟩
  isplitl [H]; · iexact H
  isplitl [H1]; · iexact H1
  isplitl [H3] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G loc c)
      ⊢ (|={Set.univ}=> iprop((bigSep Finset.univ fun k : Fin 64 => iprop(∃ κ : ℕ, cellInv EX (sched loc) κ (cellAt (c, k))))
          ∗ (bigSep Finset.univ fun k : Fin 64 => iprop(atPos EX (cellAt (c, k)) 0 ∅ 0 ∗ reached EX (cellAt (c, k)) 0)) ∗ (copySems c ∗ payToks c)) : sProp 𝕄) := by
  have hv : iprop((bigSep (Finset.Ico 1 64) fun k => (semVal (kcell c k) 0 : sProp 𝕄)) ∗ unscopedSems0 c)
      ⊢ bigSep Finset.univ fun k : Fin 64 => (semVal (cellAt (c, k)) 0 : sProp 𝕄) := by
    rw [bigSep_fin_eq_range 64 _ (fun k => semVal (kcell c k) 0) (fun _ _ => rfl), with_bar c, unscopedSems_eq]
    exact sep_comm.1
  rw [ownSems_eq]
  unfold G
  iintro ⟨⟨Hcp, Hos⟩, Hus, Hst, Hat, Htok⟩
  ihave Hv := hv $$ [Hos Hus]
  · isplitl [Hos] <;> iassumption
  imod (show iprop((bigSep Finset.univ fun k : Fin 64 => semVal (cellAt (c, k)) 0) ∗ bigSep Finset.univ fun k : Fin 64 => roundState EX (sched loc) (cellAt (c, k)) 0)
      ⊢ (|={Set.univ}=> bigSep Finset.univ fun k : Fin 64 => iprop(∃ κ : ℕ, cellInv EX (sched loc) κ (cellAt (c, k))) : sProp 𝕄) from by
        rw [← bigSep_sep']
        exact (bigSep_mono fun k _ => (Rounds.body_intro EX (sched loc) (cellAt (c, k))).trans inv_alloc).trans (bigSep_fupd _ _)) $$ [Hv Hst] with Hinv
  · isplitl [Hv] <;> iassumption
  imodintro
  isplitl [Hinv]; · iexact Hinv
  isplitl [Hat]; · iexact Hat
  isplitl [Hcp] <;> iassumption

omit [FloatOps F] in
theorem give_each {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem dealt_intro (K : Dev nD → ℕ → ℕ) (c : Dev nD) :
    iprop(shared loc K ∗ ((bigSep Finset.univ fun k : Fin 64 => atPos EX (cellAt (c, k)) 0 ∅ 0) ∗ (copySems c ∗ payToks c))) ⊢ G' loc c := by
  unfold G' places
  rw [bigSep_fin_eq_range 64 (fun k : Fin 64 => (atPos EX (cellAt (c, k)) 0 ∅ 0 : sProp 𝕄)) (fun k => atPos EX (kcell c k) 0 ∅ 0) (fun _ _ => rfl)]
  iintro H
  iexists K
  iexact H

omit [FloatOps F] in
theorem over_cells (Φ : Dev nD → ℕ → sProp 𝕄) :
    bigSep Finset.univ (fun ck : Dev nD × Fin 64 => Φ ck.1 ck.2.val) = bigSep Finset.univ fun c => bigSep (Finset.range 64) (Φ c) := by
  rw [bigSep_univ_prod]
  exact bigSep_congr fun c _ => bigSep_fin_eq_range 64 _ (Φ c) (fun _ _ => rfl)

omit [FloatOps F] in
theorem regroup :
    (bigSep Finset.univ fun c : Dev nD => iprop((bigSep Finset.univ fun k : Fin 64 => iprop(∃ κ : ℕ, cellInv EX (sched loc) κ (cellAt (c, k))))
          ∗ (bigSep Finset.univ fun k : Fin 64 => iprop(atPos EX (cellAt (c, k)) 0 ∅ 0 ∗ reached EX (cellAt (c, k)) 0)) ∗ (copySems c ∗ payToks c)) : sProp 𝕄)
      ⊢ bigSep Finset.univ (G' loc) := by
  rw [bigSep_sep', bigSep_sep', ← bigSep_univ_prod (fun ck : Dev nD × Fin 64 => iprop(∃ κ : ℕ, cellInv EX (sched loc) κ (cellAt ck))),
    bigSep_congr (s := Finset.univ) (fun (c : Dev nD) _ => bigSep_sep' Finset.univ (fun k : Fin 64 => (atPos EX (cellAt (c, k)) 0 ∅ 0 : sProp 𝕄)) (fun k => reached EX (cellAt (c, k)) 0)),
    bigSep_sep', ← bigSep_univ_prod (fun ck : Dev nD × Fin 64 => (reached EX (cellAt ck) 0 : sProp 𝕄)),
    over_cells fun c k => (reached EX (kcell c k) 0 : sProp 𝕄)]
  have hinv (K : Dev nD × Fin 64 → ℕ) :
      (bigSep Finset.univ fun ck : Dev nD × Fin 64 => (cellInv EX (sched loc) (K ck) (cellAt ck) : sProp 𝕄))
        = bigSep Finset.univ fun c : Dev nD => bigSep (Finset.range 64) fun k =>
          cellInv EX (sched loc) (if h : k < 64 then K (c, ⟨k, h⟩) else 0) (kcell c k) := by
    rw [← over_cells fun c k => (cellInv EX (sched loc) (if h : k < 64 then K (c, ⟨k, h⟩) else 0) (kcell c k) : sProp 𝕄)]
    exact bigSep_congr fun ck _ => by rw [dif_pos ck.2.isLt]
  iintro ⟨HI, ⟨Hat, #HR⟩, Htok⟩
  ihave HK := (BI.bigSep_exists_pi Finset.univ (fun (ck : Dev nD × Fin 64) (κ : ℕ) => (cellInv EX (sched loc) κ (cellAt ck) : sProp 𝕄))) $$ HI
  icases HK with ⟨%K, HI⟩
  ihave HI' := (Entails.of_eq (hinv K)) $$ HI
  icases HI' with #HI
  iapply (give_each (R := shared loc fun c k => if h : k < 64 then K (c, ⟨k, h⟩) else 0) fun c => dealt_intro loc _ c)
  isplitr
  · unfold shared; isplitl; · iexact HI
    iexact HR
  · iapply (Entails.of_eq (bigSep_sep' Finset.univ (fun c : Dev nD => bigSep Finset.univ fun k : Fin 64 => (atPos EX (cellAt (c, k)) 0 ∅ 0 : sProp 𝕄))
      (fun c => iprop(copySems c ∗ payToks c))).symm)
    isplitl [Hat]; · iexact Hat
    iexact Htok

omit [FloatOps F] in
/-- Every device's semaphores and resources become every device's share of the exchange. -/
theorem glob : (bigSep Finset.univ fun c => iprop(Pipeline.ownSems0 (Ix := Unit) (Name := ℕ) (U := UU) (Lvl := ℕ) (Val := Elt F) (τ := τ) osem c ∗ unscopedSems0 c ∗ G loc c) : sProp 𝕄)
    ⊢ |={Set.univ}=> bigSep Finset.univ (G' loc) :=
  ((bigSep_mono fun c _ => core_alloc loc c).trans (bigSep_fupd _ _)).trans (BI.fupd_mono (regroup loc))

end Deal

/-! ## The credit at launch -/

theorem tgt_eq_iff {d c : Dev nD} {i : ℕ} (hi : i < 31) : tgt d i = c ↔ d = tgt c (30 - i) := by
  have h1 := c.isLt
  have h2 := d.isLt
  simp only [nD] at h1 h2
  constructor
  · rintro rfl; exact (tgt_tgt d hi).symm
  · rintro rfl
    have := tgt_tgt c (j := 30 - i) (by omega)
    rwa [show 30 - (30 - i) = i by omega] at this

theorem owed_bar (d c : Dev nD) : O₀ d (barCell c) () = ∑ i ∈ Finset.Ico 0 31, if d = tgt c (30 - i) then 1 else 0 := by
  have h0 : OR d 0 (barCell c) () = 0 := by
    refine Nat.eq_zero_of_not_pos fun h => ?_
    obtain ⟨i, hi⟩ := OR_pos h
    exact absurd (congrArg Prod.snd hi) (fun h => by cases h)
  unfold O₀
  rw [Pi.add_apply, Finsupp.add_apply, h0, Nat.zero_add]
  unfold OB
  rw [Finset.sum_apply, Finsupp.finset_sum_apply]
  refine Finset.sum_congr rfl fun i hi => ?_
  rw [tallyAt_apply]
  refine if_congr ?_ rfl rfl
  rw [← tgt_eq_iff (Finset.mem_Ico.mp hi).2]
  exact ⟨fun h => (congrArg (fun g : GSem nD τ sig => g.1.1) h.1).symm, fun h => ⟨by rw [h], rfl⟩⟩

theorem owed_recv (d c s : Dev nD) : O₀ d (recvCell c s) () = if d = s then (∑ i ∈ Finset.Ico 0 31, if tgt s i = c then N else 0) else 0 := by
  have h0 : OB d 0 (recvCell c s) () = 0 := by
    refine Nat.eq_zero_of_not_pos fun h => ?_
    obtain ⟨i, hi⟩ := OB_pos h
    exact absurd (congrArg Prod.snd hi) (fun h => by cases h)
  have hs := s.isLt
  have hd := d.isLt
  simp only [nD] at hs hd
  unfold O₀
  rw [Pi.add_apply, Finsupp.add_apply, h0, Nat.add_zero]
  unfold OR
  rw [Finset.sum_apply, Finsupp.finset_sum_apply]
  split_ifs with h
  · subst h
    refine Finset.sum_congr rfl fun i hi => ?_
    rw [tallyAt_apply]
    refine if_congr ?_ rfl rfl
    exact ⟨fun h => (congrArg (fun g : GSem nD τ sig => g.1.1) h.1).symm, fun h => ⟨by rw [h], rfl⟩⟩
  · refine Finset.sum_eq_zero fun i _ => ?_
    rw [tallyAt_apply, if_neg]
    rintro ⟨h1, -⟩
    have := dma_eq (by omega) (by omega) (congrArg Prod.snd h1)
    exact h (Fin.ext (by omega))

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (tgt c (30 - i)) fun _ => 1]
  simp

theorem launch_recv (c : Dev nD) {j : ℕ} (hj : j < 31) :
    tallyOn (recvCell c (tgt c j)) (launchCredit (Pipeline.owing O₀) 0 (recvCell c (tgt c j)))
      = (tallyAt (recvCell c (tgt c j)) () N : CellTallies nD τ sig Unit) := by
  unfold tallyAt; refine congrArg _ (Finsupp.ext fun u => ?_); cases u
  rw [Pipeline.launchCredit_owing, Finsupp.single_eq_same, Finset.sum_congr rfl fun d _ => owed_recv d c (tgt c j),
    Finset.sum_ite_eq' Finset.univ (tgt c j), if_pos (Finset.mem_univ _),
    Finset.sum_eq_single_of_mem (30 - j) (Finset.mem_Ico.mpr ⟨Nat.zero_le _, by omega⟩), if_pos (tgt_tgt c hj)]
  intro i hi hne
  rw [if_neg]
  intro h
  have hi' := (Finset.mem_Ico.mp hi).2
  rw [← tgt_tgt c hj] at h
  rw [tgt_tgt c hj] at h
  exact hne (tgt_inj (tgt c j) hi' (by omega) (h.trans (tgt_tgt c hj).symm))

/-- The credit of device `c`. -/
def credits (c : Dev nD) : sProp 𝕄 :=
  iprop(cred (tallyAt (barCell c) () 31) ∗ bigSep (Finset.Ico 0 31) fun i => cred (tallyAt (recvCell c (tgt c i)) () N))

def recvEmb : Dev nD ↪ SemLoc sig := ⟨fun s => .dma (dsem (s.val + 34)), fun s s' h => by
  have h1 := s.isLt
  have h2 := s'.isLt
  simp only [nD] at h1 h2
  have := dma_eq (by omega) (by omega) h
  exact Fin.ext (by omega)⟩

omit [FloatOps F] in
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map recvEmb) ?_).trans ?_
  · intro x hx
    obtain ⟨s, -, rfl⟩ := Finset.mem_map.mp hx
    exact Finset.mem_erase.mpr ⟨(fun h => by cases h), Finset.mem_univ _⟩
  · rw [bigSep_map, by_distance c]
    have h : (bigSep (Finset.Ico 0 31) fun i => (cred (tallyOn (recvCell c (tgt c i))
          (launchCredit (Pipeline.owing O₀) 0 (recvCell c (tgt c i)))) : sProp 𝕄))
        ⊢ bigSep (Finset.Ico 0 31) fun i => cred (tallyAt (recvCell c (tgt c i)) () N) :=
      bigSep_mono fun i hi => by rw [launch_recv c (Finset.mem_Ico.mp hi).2]; exact BI.Entails.refl _
    have h' (A : sProp 𝕄) : iprop(A ∗ bigSep (Finset.Ico 0 31) fun i => (cred (tallyOn (recvCell c (tgt c i))
          (launchCredit (Pipeline.owing O₀) 0 (recvCell c (tgt c i)))) : sProp 𝕄))
        ⊢ bigSep (Finset.Ico 0 31) fun i => cred (tallyAt (recvCell c (tgt c i)) () N) := by
      iintro ⟨-, H⟩
      iapply h
      iexact H
    exact h' _

end Cert.Exchange

end
-- ==== Proof.Launch.lean ====
/-
# The whole run

Started from any memory with every semaphore at zero, on the thirty-two devices, the program ends with `outAt` in every
device's result, its rows unchanged and every semaphore back at zero. This is for any float values.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Buffers cut and put together -/

/-- The device's rows, and its working buffer, held whole. -/
def ARG (x : Arg F) (c : Dev nD) : sProp 𝕄 := argM.view.loc (c : Thread nD τ) ↦[Finset.univ]{fullShare} x
def XBF (c : Dev nD) (f : Buf (Elt F) (xbufM.view.loc (c : Thread nD τ))) : sProp 𝕄 :=
  xbufM.view.loc (c : Thread nD τ) ↦[Finset.univ]{fullShare} f

theorem xSet_rest : (Finset.univ : Finset S2x256x1024.Idx) \ xSet 0 = xSet 1 := by
  ext i
  have h : (i 0).val < 2 := (i 0).isLt
  simp only [xSet, Finset.mem_sdiff, Finset.mem_univ, true_and, Finset.mem_filter]
  omega

omit [FloatOps F] in
theorem halves (x : Arg F) (c : Dev nD) :
    (ARG x c : sProp 𝕄) ⊣⊢ iprop((argM.view.loc (c : Thread nD τ) ↦[Finset.univ]{xq 0} x) ∗ argM.view.loc (c : Thread nD τ) ↦[Finset.univ]{xq 1} x) := by
  unfold ARG xq
  rw [if_pos rfl, if_neg (by decide)]
  exact pointsTo_share (PosShare.mem_left_op_right _)

omit [FloatOps F] in
/-- The two slots of the working buffer, with their shares of `x` and their semaphores, from the whole buffers; -/
theorem xi_split (x : Arg F) (c : Dev nD) (f) : iprop(ARG x c ∗ XBF c f ∗ copySems c) ⊢ (iprop(XI x c 0 f ∗ XI x c 1 f) : sProp 𝕄) := by
  have hx : (XBF c f : sProp 𝕄) ⊢ iprop((xbufM.view.loc (c : Thread nD τ) ↦[xSet 0]{fullShare} f)
      ∗ xbufM.view.loc (c : Thread nD τ) ↦[xSet 1]{fullShare} f) := by
    rw [← xSet_rest]
    exact (pointsTo_split_subset (Finset.subset_univ (xSet 0))).1
  unfold XI copySems
  iintro ⟨Ha, Hx, H1, H2⟩
  ihave Ha' := (halves x c).1 $$ Ha
  ihave Hx' := hx $$ Hx
  icases Ha' with ⟨Ha0, Ha1⟩
  icases Hx' with ⟨Hx0, Hx1⟩
  isplitl [Ha0 Hx0 H1]
  · isplitl [Ha0]; · iexact Ha0
    isplitl [Hx0] <;> iassumption
  · isplitl [Ha1]; · iexact Ha1
    isplitl [Hx1] <;> iassumption

omit [FloatOps F] in
/-- and the whole buffers back. -/
theorem xi_join (x : Arg F) (c : Dev nD) (f g) : iprop(XI x c 0 f ∗ XI x c 1 g) ⊢ (iprop(ARG x c ∗ (∃ f, XBF c f) ∗ copySems c) : sProp 𝕄) := by
  have hx : iprop((xbufM.view.loc (c : Thread nD τ) ↦[xSet 0]{fullShare} f)
      ∗ xbufM.view.loc (c : Thread nD τ) ↦[xSet 1]{fullShare} g) ⊢ (iprop(∃ f, XBF c f) : sProp 𝕄) := by
    unfold XBF
    rw [← xSet_rest]
    iintro H
    iexists ((xSet 0).piecewise f g)
    iapply (pointsTo_join_subset (Finset.subset_univ (xSet 0)))
    iexact H
  unfold XI copySems
  iintro ⟨⟨Ha0, Hx0, H1⟩, Ha1, Hx1, H2⟩
  isplitl [Ha0 Ha1]
  · iapply (halves x c).2
    isplitl [Ha0] <;> iassumption
  isplitl [Hx0 Hx1]
  · iapply hx
    isplitl [Hx0] <;> iassumption
  · isplitl [H1] <;> iassumption

section Launch

variable (m : (ℓ : Loc nD τ sig) → Buf (Elt F) ℓ) (ρ : Dev nD → PrngReg)

/-- The rows of each device. -/
abbrev X (c : Dev nD) : Arg F := m ((c : Thread nD τ).loc main_arg0)

/-- What device `c` starts with: the records, its places, semaphores, tokens and credit, and its rows. -/
def start (c : Dev nD) : sProp 𝕄 :=
  iprop((∃ K, records (locs (X m)) K ∗ (places c ∗ copySems c ∗ payToks c)) ∗ credits c ∗ ARG (X m c) c)

def Φ₀ (c : Dev nD) : sProp 𝕄 := iprop(start m c ∗ (∃ f, LOC c f) ∗ (∃ f, XBF c f) ∗ (∃ f, RCB c f))
def Φ₁ (c : Dev nD) : sProp 𝕄 :=
  iprop((semVal (barCell c) 0 ∗ ARG (X m c) c) ∗ (copySems c ∗ ZEROS c) ∗ (∃ f, LOC c f) ∗ (∃ f, XBF c f) ∗ (∃ f, RCB c f))

def dats (_ : Fin 1) (c : Dev nD) : Dat τ (Elt F) Unit ℕ UU ℕ cfg0 c where
  A w := m ((cfg0.win w).arr.view.loc (c : Thread nD τ))
  after w _ := match w with
    | ⟨0, _⟩ => outAt (X m) c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (v : Tab F) : sProp 𝕄 :=
  iprop(∃ f : Buf (Elt F) ((c : Thread nD τ).loc cc0_stg0_0), ⌜f = v⌝ ∗ ((c : Thread nD τ).loc cc0_stg0_0) ↦{fullShare} f)

omit [FloatOps F] in
theorem owns_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-! ## The body from what a device starts with -/

omit [FloatOps F] in
theorem signals_intro (c : Dev nD) (W : Waits sig Unit) :
    iprop(owes (c : Thread nD τ) (O₀ c) W ∗ (bigSep (Finset.Ico 0 31) fun i => dutyTok EX (barCell (tgt c i)) 0 (30 - i))
      ∗ bigSep (Finset.Ico 0 31) fun i => iprop(∃ f, slotPts c (tgt c i) f)) ⊢ (SIG c 0 : sProp 𝕄) := by
  unfold SIG O₀
  rw [bigSep_sep']
  iintro ⟨H, H1, H2⟩
  isplitl [H]
  · iexists W; iexact H
  isplitl [H1] <;> iassumption

/-- What the body leaves is what it should leave. -/
def post (c : Dev nD) : sProp 𝕄 :=
  iprop(Φ₁ m c ∗ (dats m 0 c).owesAt () t0_0.succ ∗ stg c (outAt (X m) c))

theorem done_post (c : Dev nD) : iprop(DONE (X m) c ∗ emp) ⊢ post m c := by
  unfold DONE post Φ₁ Dat.owesAt Pipeline.owesWithin
  rw [show (dats m 0 c).owed t0_0.succ = 0 from rfl]
  iintro ⟨⟨⟨%W, Ho⟩, ⟨%f, H0⟩, ⟨%g, H1⟩, Hl, Hr, Hb, Hz, Hout⟩, -⟩
  ihave Hx := (xi_join (X m c) c f g) $$ [H0 H1]
  · isplitl [H0] <;> iassumption
  icases Hx with ⟨Ha, Hx, Hcp⟩
  isplitr [Ho Hout]
  · isplitl [Hb Ha]
    · isplitl [Hb] <;> iassumption
    isplitl [Hcp Hz]
    · isplitl [Hcp] <;> iassumption
    isplitl [Hl]; · iexact Hl
    isplitl [Hx] <;> iassumption
  isplitl [Ho]
  · iexists W
    isplitr; · ipureintro; exact fun _ _ => Or.inl trivial
    iexact Ho
  iexists (outAt (X m) c)
  isplitr; · ipureintro; rfl
  unfold OUT
  iexact Hout

def pre (c : Dev nD) : sProp 𝕄 :=
  iprop(Φ₀ m c ∗ (dats m 0 c).owesAt () t0_0.castSucc ∗ (∃ d, stg c ((dats m 0 c).before (0 : Fin 1) t0_0 d)))

theorem sound_body (c : Dev nD) :
    pre m c ⊢ wp frame (wpE (defs₀ (F := F)) 𝒱₀ (c : Thread nD τ) none) Set.univ
      (cc0_body (F := F) argM (Memref.isWhole_whole _) outM (Memref.isWhole_whole _) locM (Memref.isWhole_whole _)
          xbufM (Memref.isWhole_whole _) rcvM (Memref.isWhole_whole _) cc0_scratch3 cc0_scratch4 cc0_scratch5) (fun _ => post m c) := by
  unfold pre Φ₀ start credits places payToks Dat.owesAt Pipeline.owesWithin
  rw [show (dats m 0 c).owed t0_0.castSucc = O₀ c from rfl, with_bar c, by_kind c (fun g => (atPos EX g 0 ∅ 0 : sProp 𝕄))]
  iintro ⟨⟨⟨⟨%K, Hrec, ⟨HaB, HaS, HaO, HaR⟩, Hcp, HtB, HtR, HtS⟩, ⟨HcB, HcR⟩, Ha⟩, ⟨%fl, Hl⟩, ⟨%fx, Hx⟩, ⟨%fr, Hr⟩⟩, ⟨%W, %hW, Ho⟩, ⟨%d, %fo, %hfo, Hout⟩⟩
  unfold RCB
  ihave Hs := (slots_split c fr) $$ Hr
  icases Hs with ⟨Hs, Hown⟩
  ihave Hsig := (signals_intro c W) $$ [Ho HtB Hs]
  · isplitl [Ho]; · iexact Ho
    isplitl [HtB] <;> iassumption
  ihave Hxi := (xi_split (X m c) c fx) $$ [Ha Hx Hcp]
  · isplitl [Ha]; · iexact Ha
    isplitl [Hx] <;> iassumption
  icases Hxi with ⟨H0, H1⟩
  iapply (body_run (X m) K c (f0 := fx) (f1 := fx) (fl := fl) (fs := fr) (fo := fo) (done_post m c))
  unfold SNT RVC SNA OUT
  rw [bigSep_sep', bigSep_sep']
  isplitl [Hrec]; · iexact Hrec
  isplitl [Hsig]; · iexact Hsig
  isplitl [H0]; · iexact H0
  isplitl [H1]; · iexact H1
  isplitl [Hl]; · iexact Hl
  isplitl [HcB]; · iexact HcB
  isplitl [HaB]; · iexact HaB
  isplitl [HtS HtR]
  · isplitl [HtS] <;> iassumption
  isplitl [HcR HaR]
  · isplitl [HcR] <;> iassumption
  isplitl [HaS]; · iexact HaS
  isplitl [Hown]; · iexact Hown
  isplitl [HaO]; · iexact HaO
  isplitl [Hout]; · iexact Hout
  iempintro

omit [FloatOps F] in
theorem bigSep_W (Φ : Fin cfg0.W → sProp 𝕄) : bigSep Finset.univ Φ = Φ (0 : Fin 1) := bigSep_W0 Φ

set_option maxRecDepth 100000 in
theorem body_obligation (c : Dev nD) : BodyObligation (dats (F := F) m 0 c) (defs₀ (F := F)) 𝒱₀ () Set.univ := fun t => by
  rw [show t = t0_0 from fin_N0 t]
  rw [bigSep_W, bigSep_W]
  simp only [owns_eq]
  show pre m c ⊢ wp frame (wpE (defs₀ (F := F)) 𝒱₀ (c : Thread nD τ) none) Set.univ
    (cc0_body (F := F) argM (Memref.isWhole_whole _) outM (Memref.isWhole_whole _) locM (Memref.isWhole_whole _)
      xbufM (Memref.isWhole_whole _) rcvM (Memref.isWhole_whole _) cc0_scratch3 cc0_scratch4 cc0_scratch5) (fun _ => post m c)
  exact sound_body m c

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (locs (X m)) c)
      ⊢ (|={Set.univ}=> iprop(start m c ∗ emp) : sProp 𝕄) := by
  rw [Pipeline.unscopedRestP_none, show Pipeline.unscopedRest cfg0.spec c (fun b => m ((c : Thread nD τ).loc b)) = _ from unscopedRest0_eq c _]
  unfold G' start
  iintro ⟨Ha, Hlev, Hcr, -, ⟨%K, Hsh, Hrest⟩⟩
  ihave Hc := (creds (F := F) c) $$ Hcr
  imodintro
  isplitl
  · isplitl [Hlev Hsh Hrest]
    · iexists K
      isplitl [Hlev Hsh]
      · unfold shared records
        icases Hsh with ⟨H1, H2⟩
        isplitl [H1]; · iexact H1
        isplitl [H2] <;> iassumption
      iexact Hrest
    isplitl [Hc]; · iexact Hc
    unfold ARG
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = _ from scopedRest0_eq c]
  unfold Φ₀ LOC XBF RCB
  iintro ⟨Hs, -, Hr⟩
  isplitl [Hs]; · iexact Hs
  iexact Hr

theorem phi1_exit (c : Dev nD) :
    (dats m 0 c).Φ (Fin.last cfg0.N)
      ⊢ iprop((unscopedSems0 c ∗ ARG (X m c) c) ∗ Pipeline.ownSems0 osem c ∗ Pipeline.scopedRest cfg0.spec c) := by
  rw [show (dats m 0 c).Φ (Fin.last cfg0.N) = Φ₁ m c from rfl, show Pipeline.scopedRest cfg0.spec c = _ from scopedRest0_eq c, unscopedSems_eq]
  unfold Φ₁ LOC XBF RCB
  iintro ⟨H1, H2, H3⟩
  isplitl [H1]; · iexact H1
  isplitl [H2]
  · iapply (zeros_give c); iexact H2
  iexact H3

theorem waits (c : Dev nD) : (levAts L lv : sProp 𝕄) ⊢ Pipeline.cellsWaits cfgs (dats m) () 0 c :=
  Pipeline.cellsWaits_intro cfgs (dats m) () 0 c fun w s t => by
    have hq : ∀ w s, ((cfg0.win w).sem s).val < 34 := by decide
    rcases t with ⟨_ | _, ht⟩
    · exact mayWait_low c _ (hq w s) 0 0
    · rw [show (dats m 0 c).owed ⟨_ + 1, ht⟩ = 0 from rfl, MayWait_zero]; iintro -; iempintro

/-! ## The run -/

/-- How device `c`'s result and rows stand at the end. -/
def Ends (s : MemSt nD τ sig (Elt F)) : Prop :=
  ∀ c : Dev nD, s.mem ((c : Thread nD τ).loc main_v1) = outAt (X m) c ∧ s.mem ((c : Thread nD τ).loc main_arg0) = X m c

def QY (c : Dev nD) (s : MemSt nD τ sig (Elt F)) : Prop :=
  (∀ sm : SemLoc sig, sm.isScoped .tc = false → s.sem ((c.tc : Thread nD τ), sm) = 0) ∧ s.mem ((c : Thread nD τ).loc main_arg0) = X m c

theorem read_end (c : Dev nD) (s' : Phys nD τ sig (Elt F)) :
    iprop((unscopedSems0 c ∗ ARG (X m c) c) ∗ emp ∗ SI s') ⊢ (|={Set.univ}=> iprop(⌜QY m c s'.mem⌝ ∗ SI s') : sProp 𝕄) := by
  unfold ARG QY
  iintro ⟨⟨Hu, Ha⟩, -, HSI⟩
  ihave %h := (SI_pointsTo_agree (st := s') (ℓ := (c : Thread nD τ).loc main_arg0) (f := X m c)) $$ [Ha HSI]
  · isplitl [HSI] <;> iassumption
  imod (Pipeline.unscopedSems0_read (X := unscopedSems0 c) (c := c) fupd_intro s') $$ [Hu HSI] with H
  · isplitl [Hu] <;> iassumption
  icases H with ⟨%h2, HSI⟩
  imodintro
  isplitr
  · ipureintro; exact ⟨h2, funext fun i => h i (Finset.mem_univ i)⟩
  iexact HSI

omit [FloatOps F] in
theorem funds : (BI.own (embR (initOf exchangeCells exchangeToks, (1 : Counters))) : sProp 𝕄)
    ⊢ BI.own (EX (initOf exchangeCells exchangeToks)) := by
  unfold EX; exact BI.Entails.refl _

/-- The result array at the end. -/
theorem out_end (c : Dev nD) : (dats m 0 c).arrAt (0 : Fin 1) cfg0.N = outAt (X m) c :=
  (dats m 0 c).arrAt_eq_of_after_last (0 : Fin 1) t0_0 (by decide +kernel) (outAt (X m) c)
    (fun j => rfl) (Memref.isWhole_whole _)

set_option maxRecDepth 100000 in
theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (locs (X m))) (G' := G' (locs (X m))) (u₀ := u₀)
    (hu₀ := by
      unfold u₀
      iintro Hu
      ihave H := (ownU_pair _ _) $$ Hu
      icases H with ⟨HP, HX⟩
      ihave HX' := (funds (F := F)) $$ HX
      imod (fund_exchange (locs (X m))) $$ HX' with HG
      imodintro
      isplitl [HP] <;> iassumption)
    (hglob := glob (locs (X m)))
    (hA := fun _ _ => rfl) (hpf := fun _ k => k.elim0)
    (X := start m) (Y := fun c => iprop(unscopedSems0 c ∗ ARG (X m c) c)) (Z := fun _ => iprop(emp))
    (hX := start_intro m ρ) (hin := phi0_intro m) (hout := phi1_exit m)
    (QY := QY m) (hY := read_end m)
    (hQ := fun _ h hs => ⟨fun c => ⟨((h c).1 0).trans (out_end m c), (h c).2.2.2⟩, sem_eq_zero hs fun c => (h c).2.2.1⟩)

end Launch

end Cert.Exchange

end
-- ==== Proof.Reference.lean ====
/-
# The reference's run

The reference is a straight line of array operations on one device: the arg-max of every column, its conversion to
floats, the maximum of every column, and the two rows put under one another. It ends with `refOut` in the result and
the argument unchanged. This is for any float values.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Reference

open Cert.ReferenceIdeal Cert.ReferenceIdeal.Gen

open Idealize.ShloMosaic Idealize.ShloMosaic.StableHlo
open Idealize.ShloMosaic.TcCoe
open Idealize.SL.Sem

variable {F : FTy → Type} [FloatOps F]

/-- The arrays the reference takes and gives. -/
abbrev Arr (F : FTy → Type) : Type := (main_arg0 : Ref sig .tc).ty.Contents (Elt F)
abbrev Res (F : FTy → Type) : Type := (main_v5 : Ref sig .tc).ty.Contents (Elt F)

/-- The greatest value of every column with the row it is found in. -/
def best (x : Arr F) : S1024.Idx → F .f32 × BitVec 32 :=
  Host.argReduce reducer_argmax_f32_i32 x (iotaInDim S65536x1024 32 0) (constant S_ .f32 0xFF800000#32) (constantI S_ 32 0#32)
    reducesTo_S65536x1024_S1024_d0 h_S_

/-- The maximum of every column. -/
def tops (x : Arr F) : FVec F S1024 .f32 :=
  Host.reduce FloatOps.maximumf x (constant S_ .f32 0xFF800000#32) reducesTo_S65536x1024_S1024_d0 h_S_

/-- Two rows put under one another. -/
def under (a b : (⟨S1x1024, .f32⟩ : BufTy).Contents (Elt F)) : Res F :=
  concatenate S2x1024 0 [⟨S1x1024, a⟩, ⟨S1x1024, b⟩] concatenates_S1x1024_S1x1024_S2x1024_d0

/-- The result: the maxima over the row numbers. -/
def refOut (x : Arr F) : Res F :=
  under (broadcastInDim S1x1024 ![1] bcast_S1024_S1x1024_1 (tops x))
    (broadcastInDim S1x1024 ![1] bcast_S1024_S1x1024_1 (sitofp .f32 fun j => (best x j).2))

/-- The operations, in order. -/
abbrev steps : List (HloOp τ sig (Elt F)) :=
  [ TRef.nullary (.of main_call0_v0) (iotaInDim S65536x1024 32 0),
    TRef.nullary (.of main_call0_cst) (constant S_ .f32 0xFF800000#32),
    TRef.nullary (.of main_call0_c) (constantI S_ 32 0#32),
    TRef.quaternary (.of main_arg0) (.of main_call0_v0) (.of main_call0_cst) (.of main_call0_c) (.of main_call0_v1_0)
      (fun x y u v j => (Host.argReduce reducer_argmax_f32_i32 x y u v reducesTo_S65536x1024_S1024_d0 h_S_ j).1),
    TRef.quaternary (.of main_arg0) (.of main_call0_v0) (.of main_call0_cst) (.of main_call0_c) (.of main_v0)
      (fun x y u v j => (Host.argReduce reducer_argmax_f32_i32 x y u v reducesTo_S65536x1024_S1024_d0 h_S_ j).2),
    unary main_v0 main_v1 (sitofp .f32 : (⟨S1024, .i32⟩ : BufTy).Contents (Elt F) → (⟨S1024, .f32⟩ : BufTy).Contents (Elt F)),
    nullary main_cst (constant S_ .f32 0xFF800000#32),
    binary main_arg0 main_cst main_v2
      ((fun x v => Host.reduce FloatOps.maximumf x v reducesTo_S65536x1024_S1024_d0 h_S_) :
        (⟨S65536x1024, .f32⟩ : BufTy).Contents (Elt F) → (⟨S_, .f32⟩ : BufTy).Contents (Elt F) → (⟨S1024, .f32⟩ : BufTy).Contents (Elt F)),
    unary main_v2 main_v3 (broadcastInDim S1x1024 ![1] bcast_S1024_S1x1024_1 : (⟨S1024, .f32⟩ : BufTy).Contents (Elt F) → (⟨S1x1024, .f32⟩ : BufTy).Contents (Elt F)),
    unary main_v1 main_v4 (broadcastInDim S1x1024 ![1] bcast_S1024_S1x1024_1 : (⟨S1024, .f32⟩ : BufTy).Contents (Elt F) → (⟨S1x1024, .f32⟩ : BufTy).Contents (Elt F)),
    binary main_v3 main_v4 main_v5 under ]

/-- The program is those operations one after another, the call replaced by its body. -/
theorem main_steps (c : Dev nD) : main (F := F) c = seq steps := by
  simp only [main, fn_argmax.body, seq, bind_assoc, pure_bind]
  rfl

/-- What they leave in the result, -/
theorem result_eq (V : Valuation τ sig (Elt F)) :
    after steps V (main_v5 : DevRef τ sig) = refOut (V (main_arg0 : DevRef τ sig)) := by
  after_results_simp
  rfl

/-- and in the argument. -/
theorem arg_eq (V : Valuation τ sig (Elt F)) :
    after steps V (main_arg0 : DevRef τ sig) = V (main_arg0 : DevRef τ sig) := by
  simp only [after_cons, after_nil]
  rfl

/-- They stay within the program's buffers. -/
theorem steps_sub : (steps : List (HloOp τ sig (Elt F))).Forall fun op => op.bufs ⊆ tcRefs τ sig :=
  ⟨nullary_bufs_sub .., nullary_bufs_sub .., nullary_bufs_sub .., quaternary_bufs_sub .., quaternary_bufs_sub ..,
    unary_bufs_sub .., nullary_bufs_sub .., binary_bufs_sub .., unary_bufs_sub .., unary_bufs_sub .., binary_bufs_sub ..⟩

/-- The run. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v5) = refOut (m ((c : Thread nD τ).loc main_arg0))
        ∧ r.2.mem ((c : Thread nD τ).loc main_arg0) = m ((c : Thread nD τ).loc main_arg0) :=
  (θ_run defs _ _).mono (fun r h c => ⟨(h c main_v5).trans (result_eq _), (h c main_arg0).trans (arg_eq _)⟩)
    (run_seq (by decide) (by decide) defs main (fun _ => steps) main_steps (fun _ => steps_sub) m ρ)

/-- It leaves its argument as it was and has no semaphore. -/
theorem frame_ref : Cert.quiescent_ReferenceIdeal := fun m ρ _ =>
  (θ_run Cert.ReferenceIdeal.defs _ _).mono
    (fun r h => ⟨fun c => (h c).2, sem_eq_zero_of_no_sems (by decide) r.2⟩) (run_ref m ρ)

end Cert.Reference

end
-- ==== Proof.First.lean ====
/-
# The first place where a sequence attains its maximum

Plain mathematics about a sequence of extended reals: the first place where a stretch of it attains its maximum is
unique, and is found from the pieces of the stretch. With it, what a fold over `0 … n - 1` gives when its operation always
keeps one of its two operands, the lesser by some key.
-/
module

public import Mathlib.Data.EReal.Basic
public import Mathlib.Data.Prod.Lex
public import Mathlib.Data.List.FinRange

@[expose] public section

namespace Cert.First

/-- On `lo ≤ i < hi` the sequence has the maximum `M`, attained first at `r`. -/
structure Top (f : ℕ → EReal) (lo hi : ℕ) (M : EReal) (r : ℕ) : Prop where
  lo_le : lo ≤ r
  lt_hi : r < hi
  at_r : f r = M
  le : ∀ i, lo ≤ i → i < hi → f i ≤ M
  lt : ∀ i, lo ≤ i → i < r → f i < M

variable {f : ℕ → EReal} {lo mid hi : ℕ} {M M' : EReal} {r r' : ℕ}

theorem Top.le_max (h : Top f lo hi M r) (h' : Top f lo hi M' r') : M ≤ M' :=
  h.at_r ▸ h'.le r h.lo_le h.lt_hi

/-- There is one such maximum and one such place. -/
theorem Top.unique (h : Top f lo hi M r) (h' : Top f lo hi M' r') : M = M' ∧ r = r' := by
  have e : M = M' := le_antisymm (h.le_max h') (h'.le_max h)
  subst e
  refine ⟨rfl, ?_⟩
  rcases lt_trichotomy r r' with hr | hr | hr
  · exact absurd h.at_r (h'.lt r h.lo_le hr).ne
  · exact hr
  · exact absurd h'.at_r (h.lt r' h'.lo_le hr).ne

/-- Of two adjoining stretches the second counts only if its maximum is greater. -/
theorem Top.append (h : Top f lo mid M r) (h' : Top f mid hi M' r') :
    Top f lo hi (if M < M' then M' else M) (if M < M' then r' else r) := by
  have h1 := h.lo_le
  have h2 := h.lt_hi
  have h3 := h'.lo_le
  have h4 := h'.lt_hi
  split
  · next hlt =>
    refine ⟨by omega, by omega, h'.at_r, fun i a b => ?_, fun i a b => ?_⟩
    · rcases lt_or_ge i mid with hi | hi
      · exact (h.le i a hi).trans hlt.le
      · exact h'.le i hi b
    · rcases lt_or_ge i mid with hi | hi
      · exact (h.le i a hi).trans_lt hlt
      · exact h'.lt i hi b
  · next hge =>
    refine ⟨by omega, by omega, h.at_r, fun i a b => ?_, h.lt⟩
    rcases lt_or_ge i mid with hi | hi
    · exact h.le i a hi
    · exact (h'.le i hi b).trans (not_lt.mp hge)

/-- Of thirty-two adjoining stretches, each with its maximum and first place: `G` is the greatest of the maxima, and `J` is below
    every first place of a stretch that attains it and, if it is below `B`, one of them. Then `J` is the first place where
    the whole attains its maximum. -/
theorem Top.gather {M : Fin 32 → EReal} {r : Fin 32 → ℕ} (h : ∀ s : Fin 32, Top f (2048 * s.val) (2048 * s.val + 2048) (M s) (r s))
    {G J B : EReal} (hB : ∀ n : ℕ, n < 65536 → ((n : ℝ) : EReal) < B) (hG : ∀ s, M s ≤ G) (hG' : ∃ s, M s = G)
    (hJ : ∀ s, M s = G → J ≤ ((r s : ℝ) : EReal)) (hJ' : J < B → ∃ s, M s = G ∧ J = ((r s : ℝ) : EReal)) :
    ∃ q : ℕ, Top f 0 65536 G q ∧ J = ((q : ℝ) : EReal) := by
  have lt : ∀ s, r s < 65536 := fun s => by
    have := (h s).lt_hi
    have := s.isLt
    omega
  obtain ⟨s₁, h₁⟩ := hG'
  obtain ⟨s, hs, hq⟩ := hJ' ((hJ s₁ h₁).trans_lt (hB _ (lt s₁)))
  have piece : ∀ i < 65536, ∃ t : Fin 32, 2048 * t.val ≤ i ∧ i < 2048 * t.val + 2048 := fun i hi =>
    ⟨⟨i / 2048, by omega⟩, by show 2048 * (i / 2048) ≤ i; omega, by show i < 2048 * (i / 2048) + 2048; omega⟩
  refine ⟨r s, ⟨Nat.zero_le _, lt s, (h s).at_r.trans hs, fun i _ hi => ?_, fun i _ hi => ?_⟩, hq⟩
  · obtain ⟨t, h1, h2⟩ := piece i hi
    exact ((h t).le i h1 h2).trans (hG t)
  · obtain ⟨t, h1, h2⟩ := piece i (hi.trans (lt s))
    rcases (hG t).lt_or_eq with hlt | heq
    · exact ((h t).le i h1 h2).trans_lt hlt
    · have hle : r s ≤ r t := by
        have := hJ t heq
        rw [hq] at this
        exact_mod_cast this
      exact heq ▸ (h t).lt i h1 (hi.trans_le hle)

/-- A statement that every step of a fold carries on holds at its end. -/
theorem foldl_carries {α : Type} : ∀ (n : ℕ) (P : ℕ → α → Prop) (g : α → Fin n → α) (a : α), P 0 a →
    (∀ (i : Fin n) (b : α), P i b → P (i + 1) (g b i)) → P n ((List.finRange n).foldl g a)
  | 0, P, g, a, h0, hs => by simpa using h0
  | n + 1, P, g, a, h0, hs => by
    rw [List.finRange_succ_last, List.foldl_append, List.foldl_map]
    exact hs (Fin.last n) _ (foldl_carries n P (fun b i => g b i.castSucc) a h0 fun i b hb => hs i.castSucc b hb)

/-- A fold whose operation keeps the operand that is less by `key`: its value is the least, and is the initial value or one
    of the sequence. -/
theorem foldl_least {α β : Type} [Preorder β] (key : α → β) (op : α → α → α) (hl : ∀ a b, key (op a b) ≤ key a)
    (hr : ∀ a b, key (op a b) ≤ key b) (ho : ∀ a b, op a b = a ∨ op a b = b) {n : ℕ} (u : Fin n → α) (a : α) :
    (∀ i, key ((List.finRange n).foldl (fun b i => op b (u i)) a) ≤ key (u i))
      ∧ ((List.finRange n).foldl (fun b i => op b (u i)) a = a ∨ ∃ i, (List.finRange n).foldl (fun b i => op b (u i)) a = u i) := by
  have := foldl_carries n (fun k b => (∀ i : Fin n, i.val < k → key b ≤ key (u i)) ∧ (b = a ∨ ∃ i, b = u i))
    (fun b i => op b (u i)) a ⟨fun i hi => absurd hi (Nat.not_lt_zero _), .inl rfl⟩ (fun i b hb => by
      refine ⟨fun k hk => ?_, ?_⟩
      · rcases Nat.lt_succ_iff_lt_or_eq.mp hk with h | h
        · exact (hl _ _).trans (hb.1 k h)
        · rw [Fin.ext h]; exact hr _ _
      · rcases ho b (u i) with h | h
        · rw [h]; exact hb.2
        · exact .inr ⟨i, h⟩)
  exact ⟨fun i => this.1 i i.isLt, this.2⟩

/-- The maximum of a sequence, from −∞: an upper bound that the sequence attains. -/
theorem foldl_max {n : ℕ} (hn : 0 < n) (u : Fin n → EReal) :
    (∀ i, u i ≤ (List.finRange n).foldl (fun b i => max b (u i)) ⊥) ∧ ∃ i, u i = (List.finRange n).foldl (fun b i => max b (u i)) ⊥ := by
  have h := foldl_least (fun a : EReal => OrderDual.toDual a) max (fun a b => le_max_left (α := EReal) a b)
    (fun a b => le_max_right (α := EReal) a b) max_choice u ⊥
  have h1 : ∀ i, u i ≤ (List.finRange n).foldl (fun b i => max b (u i)) ⊥ := h.1
  refine ⟨h1, ?_⟩
  rcases h.2 with e | ⟨i, e⟩
  · exact ⟨⟨0, hn⟩, le_antisymm (h1 _) (by rw [e]; exact bot_le)⟩
  · exact ⟨i, e.symm⟩

/-- The minimum of a sequence, from +∞: a lower bound, infinite or of the sequence. -/
theorem foldl_min {n : ℕ} (u : Fin n → EReal) :
    (∀ i, (List.finRange n).foldl (fun b i => min b (u i)) ⊤ ≤ u i)
      ∧ ((List.finRange n).foldl (fun b i => min b (u i)) ⊤ = ⊤ ∨ ∃ i, (List.finRange n).foldl (fun b i => min b (u i)) ⊤ = u i) :=
  foldl_least (fun a : EReal => a) min min_le_left min_le_right min_choice u ⊤

end Cert.First
-- ==== Proof.Columns.lean ====
/-
# What a device's table holds

At the extended reals: the maxima of a device's table are those of its own rows, and the row numbers are those of the first
rows that attain them. Rows are numbered in the whole array.
-/
module

public import proofs.«01_k».proof.Proof.Table
public import proofs.«01_k».proof.Proof.First
public import Idealize.ShloMosaic.PureOps.Reduce
public import Idealize.ShloMosaic.Lib.Pipeline.Value
public import Idealize.ShloMosaic.PureOps.Ideal.Laws

@[expose] public section

noncomputable section

namespace Cert.Exchange

open Cert.KernelIdeal Cert.KernelIdeal.Gen Cert.First

open Idealize.ShloMosaic
open Idealize.ShloMosaic.ValueIdx (ix1 ix2 ix3)
open Idealize.ShloMosaic.TcCoe

/-! ## Words and folds -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]

theorem ofBool_one (p : Prop) [Decidable p] : (BitVec.ofBool (decide p) = 1#1) ↔ p := by
  by_cases h : p <;> simp [h]

/-- A select by a comparison of extended reals is a choice. -/
theorem select_eq {α : Type} (a b : Ideal .f32) (u v : α) :
    Scalar.select (FloatOps.cmpf .oeq a b) u v = if (a : EReal) = b then u else v :=
  if_congr (ofBool_one _) rfl rfl
theorem select_gt {α : Type} (a b : Ideal .f32) (u v : α) :
    Scalar.select (FloatOps.cmpf .ogt a b) u v = if (b : EReal) < a then u else v :=
  if_congr (ofBool_one _) rfl rfl

theorem choose_gt (a b u v : FVec Ideal S1024 .f32) (y : Fin 1024) :
    select (cmpf .ogt a b) u v (ix1 y) = if (b (ix1 y) : EReal) < a (ix1 y) then u (ix1 y) else v (ix1 y) :=
  select_gt _ _ _ _

/-- A fold down the columns of a matrix, at a column. -/
theorem fold_rows {α : Type} {n : ℕ} (h : (⟨2, ![n, 1024]⟩ : Shape).Reduces [0] ⟨1, ![1024]⟩) (g : α → α → α) (a : α)
    (x : (⟨2, ![n, 1024]⟩ : Shape).Idx → α) (y : Fin 1024) :
    reduceFold h g a x (ix1 y) = (List.finRange n).foldl (fun b i => g b (x (ix2 i y))) a := by
  rw [reduceFold_rows]
  show (List.finRange n).foldl _ a = _
  congr 1
  funext b i
  congr 2
  funext d
  match d with
  | ⟨0, _⟩ => rfl
  | ⟨1, _⟩ => rfl

/-- The maximum down a column, -/
theorem max_rows {n : ℕ} (h : (⟨2, ![n, 1024]⟩ : Shape).Reduces [0] ⟨1, ![1024]⟩) (x : FVec Ideal ⟨2, ![n, 1024]⟩ .f32) (y : Fin 1024) :
    multiReduction .maximumf [0] ⟨1, ![1024]⟩ x 0xFF800000#32 h (.inl rfl) rfl (ix1 y)
      = (List.finRange n).foldl (fun b i => max b (x (ix2 i y) : EReal)) ⊥ := by
  refine (fold_rows h _ _ x y).trans ?_
  show (List.finRange n).foldl (fun b i => max b (x (ix2 i y) : EReal)) (Ideal.ofBits .f32 0xFF800000#32) = _
  rw [bits_bot]

/-- the minimum, -/
theorem min_rows {n : ℕ} (h : (⟨2, ![n, 1024]⟩ : Shape).Reduces [0] ⟨1, ![1024]⟩) (x : FVec Ideal ⟨2, ![n, 1024]⟩ .f32) (y : Fin 1024) :
    multiReduction .minimumf [0] ⟨1, ![1024]⟩ x 0x7F800000#32 h (.inl rfl) rfl (ix1 y)
      = (List.finRange n).foldl (fun b i => min b (x (ix2 i y) : EReal)) ⊤ := by
  refine (fold_rows h _ _ x y).trans ?_
  show (List.finRange n).foldl (fun b i => min b (x (ix2 i y) : EReal)) (Ideal.ofBits .f32 0x7F800000#32) = _
  rw [bits_top]

/-- The lesser of two signed words is one of them and at most both. -/
theorem minsi_key (a b : BitVec 32) : (IntOp.minsi a b).toInt = min a.toInt b.toInt := by
  unfold IntOp.minsi
  simp only [BitVec.slt_iff_toInt_lt]
  split <;> omega
theorem minsi_choice (a b : BitVec 32) : IntOp.minsi a b = a ∨ IntOp.minsi a b = b := by
  unfold IntOp.minsi
  split <;> simp

/-- and of signed words: the least, which is the initial word or one of the column. -/
theorem least_rows {n : ℕ} (h : (⟨2, ![n, 1024]⟩ : Shape).Reduces [0] ⟨1, ![1024]⟩) (x : IVec ⟨2, ![n, 1024]⟩ 32) (y : Fin 1024) :
    (∀ i, (multiReductionI .minsi [0] ⟨1, ![1024]⟩ x 2147483647#32 h rfl (ix1 y)).toInt ≤ (x (ix2 i y)).toInt)
      ∧ (multiReductionI .minsi [0] ⟨1, ![1024]⟩ x 2147483647#32 h rfl (ix1 y) = 2147483647#32
        ∨ ∃ i, multiReductionI .minsi [0] ⟨1, ![1024]⟩ x 2147483647#32 h rfl (ix1 y) = x (ix2 i y)) := by
  have e : multiReductionI .minsi [0] ⟨1, ![1024]⟩ x 2147483647#32 h rfl (ix1 y)
      = (List.finRange n).foldl (fun b i => IntOp.minsi b (x (ix2 i y))) 2147483647#32 := fold_rows h _ _ x y
  rw [e]
  exact foldl_least BitVec.toInt IntOp.minsi (fun a b => minsi_key a b ▸ min_le_left _ _)
    (fun a b => minsi_key a b ▸ min_le_right _ _) minsi_choice (fun i => x (ix2 i y)) _

/-- A vector as a row. -/
theorem cast_row {α : Type} (u : S1024.Idx → α) (y : Fin 1024) :
    shapeCast S1x1024 u shapeCasts_S1024_S1x1024 (ix2 0 y) = u (ix1 y) := by
  show u (Shape.reshapeEquiv _ _) = u _
  congr 1
  refine Shape.reshapeEquiv_eq_of_rowMajor _ ?_
  rw [Shape.rowMajor_val_one, Shape.rowMajor_val_two]
  show y.val = 0 * 1024 + y.val
  omega

/-! ## One block -/

/-- The whole array's shape. -/
abbrev Whole : Shape := ⟨2, ![65536, 1024]⟩

/-- A column of the whole array, -/
def col (A : Whole.Idx → EReal) (y : Fin 1024) (i : ℕ) : EReal := A (ix2 (Fin.ofNat 65536 i) y)

/-- and the rows of device `c`. -/
def Owns (A : Whole.Idx → EReal) (c : ℕ) (x : Arg Ideal) : Prop :=
  ∀ (i : Fin 2048) (y : Fin 1024), x (ix2 i y) = col A y (2048 * c + i.val)

theorem block_val {F : FTy → Type} [FloatOps F] (v : Vec F S1x256x1024 .f32) (i : Fin 256) (y : Fin 1024) :
    bval v (ix2 i y) = v (ix3 0 i y) := by
  show v (Shape.reshapeEquiv _ _) = v _
  congr 1
  refine Shape.reshapeEquiv_eq_of_rowMajor _ ?_
  rw [Shape.rowMajor_val_three, Shape.rowMajor_val_two]
  show (0 * 256 + i.val) * 1024 + y.val = i.val * 1024 + y.val
  omega

variable {A : Whole.Idx → EReal} {c : ℕ} {x : Arg Ideal}

theorem block_row (hx : Owns A c x) {o : ℕ} (ho : o + 256 ≤ 2048) (i : Fin 256) (y : Fin 1024) :
    bval (blk x o) (ix2 i y) = col A y (2048 * c + o + i.val) := by
  have hi := i.isLt
  rw [block_val]
  refine (hx (Fin.ofNat 2048 (o + i.val)) y).trans ?_
  congr 1
  show 2048 * c + (o + i.val) % 2048 = _
  rw [Nat.mod_eq_of_lt (by omega), Nat.add_assoc]

/-- The word of a row of a block is its number. -/
theorem row_word (i : Fin 256) (y : Fin 1024) : rowIds (ix2 i y) = BitVec.ofNat 32 i.val := by
  show BitVec.ofNat 32 (0 * 256 + i.val) = _
  rw [Nat.zero_mul, Nat.zero_add]

theorem small_word {n : ℕ} (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by omega), e]

/-- A vector as a row, repeated down the rows of a matrix. -/
theorem rows_of {α : Type} {n : ℕ} (u : S1024.Idx → α) (h : S1x1024.Broadcasts ⟨2, ![n, 1024]⟩) (i : Fin n) (y : Fin 1024) :
    broadcastTo ⟨2, ![n, 1024]⟩ (shapeCast S1x1024 u shapeCasts_S1024_S1x1024) h (ix2 i y) = u (ix1 y) := by
  refine (broadcastTo_apply _ h (ix2 i y) (ix2 0 y) fun a => ?_).trans (cast_row u y)
  match a with
  | ⟨0, _⟩ => rfl
  | ⟨1, _⟩ => rfl

/-- The rows compared to the maximum: the row's number where it attains it, and 256 elsewhere. -/
theorem brow_mask (v : Vec Ideal S1x256x1024 .f32) (i : Fin 256) (y : Fin 1024) :
    select (cmpf .oeq (bval v) (broadcastTo S256x1024 (shapeCast S1x1024 (bmax v) shapeCasts_S1024_S1x1024) broadcasts_S1x1024_S256x1024))
        rowIds (broadcast S256x1024 256#32) (ix2 i y)
      = if (bval v (ix2 i y) : EReal) = bmax v (ix1 y) then BitVec.ofNat 32 i.val else 256#32 := by
  refine (select_eq _ _ _ _).trans ?_
  rw [rows_of, row_word]
  rfl

/-- A block's maximum and first row. -/
theorem block_top (hx : Owns A c x) {o : ℕ} (ho : o + 256 ≤ 2048) (y : Fin 1024) :
    ∃ k : ℕ, k < 256 ∧ brow (blk x o) (ix1 y) = BitVec.ofNat 32 k
      ∧ Top (col A y) (2048 * c + o) (2048 * c + o + 256) (bmax (blk x o) (ix1 y)) (2048 * c + o + k) := by
  have hm := foldl_max (n := 256) (by omega) fun i => (bval (blk x o) (ix2 i y) : EReal)
  rw [← max_rows reduces_S256x1024_S1024 (bval (blk x o)) y] at hm
  obtain ⟨hle, i₀, hi₀⟩ : (∀ i : Fin 256, (bval (blk x o) (ix2 i y) : EReal) ≤ bmax (blk x o) (ix1 y))
      ∧ ∃ i : Fin 256, (bval (blk x o) (ix2 i y) : EReal) = bmax (blk x o) (ix1 y) := hm
  obtain ⟨hr, hc⟩ := least_rows reduces_S256x1024_S1024
      (select (cmpf .oeq (bval (blk x o)) (broadcastTo S256x1024 (shapeCast S1x1024 (bmax (blk x o)) shapeCasts_S1024_S1x1024) broadcasts_S1x1024_S256x1024))
        rowIds (broadcast S256x1024 256#32)) y
  change ∀ i, (brow (blk x o) (ix1 y)).toInt ≤ _ at hr
  change brow (blk x o) (ix1 y) = _ ∨ ∃ i, brow (blk x o) (ix1 y) = _ at hc
  simp only [brow_mask] at hr hc
  have least : ∀ i : Fin 256, (bval (blk x o) (ix2 i y) : EReal) = bmax (blk x o) (ix1 y) →
      (brow (blk x o) (ix1 y)).toInt ≤ i.val := fun i hi => by
    have := hr i
    rw [if_pos hi, small_word (by have := i.isLt; omega)] at this
    exact this
  have h0 := least i₀ hi₀
  have hi0 := i₀.isLt
  obtain ⟨k, hk⟩ : ∃ k : Fin 256, brow (blk x o) (ix1 y) = BitVec.ofNat 32 k.val
      ∧ (bval (blk x o) (ix2 k y) : EReal) = bmax (blk x o) (ix1 y) := by
    rcases hc with e | ⟨i, e⟩
    · rw [e] at h0
      have : (2147483647#32).toInt = 2147483647 := by decide
      omega
    · split at e
      · next he => exact ⟨i, e, he⟩
      · rw [e] at h0
        have : (256#32).toInt = 256 := by decide
        omega
  have hk' := k.isLt
  rw [hk.1, small_word (by omega)] at least
  have at_row : ∀ i, 2048 * c + o ≤ i → (h : i < 2048 * c + o + 256) →
      col A y i = bval (blk x o) (ix2 ⟨i - (2048 * c + o), by omega⟩ y) := fun i h1 h2 => by
    rw [block_row hx ho]
    congr 1
    show i = 2048 * c + o + (i - (2048 * c + o))
    omega
  refine ⟨k.val, hk', hk.1, by omega, by omega, ?_, fun i h1 h2 => ?_, fun i h1 h2 => ?_⟩
  · rw [← hk.2, block_row hx ho]
  · rw [at_row i h1 h2]
    exact hle _
  · rw [at_row i h1 (by omega)]
    refine lt_of_le_of_ne (hle _) fun e => ?_
    have := least _ e
    simp only at this
    omega

/-! ## All blocks -/

/-- The row number that a block gives. -/
theorem bidx_row {w : ℕ} (hw : w < 32) {o : ℕ} (ho : o + 256 ≤ 2048) (v : Vec Ideal S1x256x1024 .f32) (y : Fin 1024) {k : ℕ} (hk : k < 256)
    (h : brow v (ix1 y) = BitVec.ofNat 32 k) :
    bidx (BitVec.ofNat 32 w) (BitVec.ofNat 32 o) v (ix1 y) = (((2048 * w + o + k : ℕ) : ℝ) : EReal) := by
  have e : bidx (F := Ideal) (BitVec.ofNat 32 w) (BitVec.ofNat 32 o) v (ix1 y)
      = (((BitVec.ofNat 32 w * 2048#32 + BitVec.ofNat 32 o + brow v (ix1 y)).toInt : ℝ) : EReal) := rfl
  have e' : BitVec.ofNat 32 w * 2048#32 + BitVec.ofNat 32 o + BitVec.ofNat 32 k = BitVec.ofNat 32 (2048 * w + o + k) := by
    apply BitVec.eq_of_toNat_eq
    simp only [BitVec.toNat_add, BitVec.toNat_mul, BitVec.toNat_ofNat]
    omega
  rw [e, h, e', small_word (by omega), Int.cast_natCast]

/-- After the blocks `0 … b`: the maximum of the rows so far, and the first row attaining it. -/
theorem acc_top {c : Dev nD} (hx : Owns A c.val x) (y : Fin 1024) : ∀ b ≤ 7, ∃ r : ℕ,
    Top (col A y) (2048 * c.val) (2048 * c.val + 256 * (b + 1)) (accM x b (ix1 y)) r ∧ accI x (wd c) b (ix1 y) = ((r : ℝ) : EReal)
  | 0, _ => by
    obtain ⟨k, hk, hb, ht⟩ := block_top hx (o := 0) (by omega) y
    refine ⟨2048 * c.val + 0 + k, ht, ?_⟩
    rw [wd_eq]
    exact bidx_row c.isLt (by omega) _ y hk hb
  | b + 1, hb => by
    obtain ⟨r, ht, hr⟩ := acc_top hx y b (by omega)
    obtain ⟨k, hk, hbr, ht'⟩ := block_top hx (o := 256 * (b + 1)) (by omega) y
    have hM : accM x (b + 1) (ix1 y)
        = if (accM x b (ix1 y) : EReal) < bmax (blk x (256 * (b + 1))) (ix1 y) then bmax (blk x (256 * (b + 1))) (ix1 y)
          else accM x b (ix1 y) := by
      rw [accM]
      exact choose_gt _ _ _ _ y
    have hI : accI x (wd c) (b + 1) (ix1 y)
        = if (accM x b (ix1 y) : EReal) < bmax (blk x (256 * (b + 1))) (ix1 y)
            then bidx (wd c) (BitVec.ofNat 32 (256 * (b + 1))) (blk x (256 * (b + 1))) (ix1 y)
          else accI x (wd c) b (ix1 y) := by
      rw [accI]
      exact choose_gt _ _ _ _ y
    have happ := ht.append ht'
    rw [← hM, show 2048 * c.val + 256 * (b + 1) + 256 = 2048 * c.val + 256 * (b + 1 + 1) by omega] at happ
    refine ⟨_, happ, ?_⟩
    rw [hI, wd_eq, bidx_row c.isLt (by omega) _ y hk hbr, ← wd_eq, hr]
    by_cases h : (accM x b (ix1 y) : EReal) < bmax (blk x (256 * (b + 1))) (ix1 y)
    · rw [if_pos h, if_pos h]
    · rw [if_neg h, if_neg h]

end Cert.Exchange

end
-- ==== Proof.Agree.lean ====
/-
# The result is the reference's

At the extended reals: the kernel's result on every device, and the reference's, hold for every column its maximum and the
first row that attains it. There is one such pair, so the two are equal.
-/
module

public import proofs.«01_k».proof.Proof.Columns
public import proofs.«01_k».proof.Proof.Reference

@[expose] public section

noncomputable section

namespace Cert.Exchange

open Cert.First

open Idealize.ShloMosaic
open Idealize.ShloMosaic.ValueIdx (ix1 ix2 ix3)
open Idealize.ShloMosaic.TcCoe

variable {A : Whole.Idx → EReal}

/-! ## The kernel's result -/

section Kernel

open Cert.KernelIdeal Cert.KernelIdeal.Gen

variable {X : Dev nD → Arg Ideal}

/-- The number that stands for no row is above every row. -/
theorem big_bits : Ideal.ofBits .f32 0x4E6E6B28#32 = ((1000000000 : ℝ) : EReal) := by
  simp [Ideal.ofBits, Ideal.ieee, -EReal.coe_mul]
  norm_num
theorem row_lt_big (n : ℕ) (h : n < 65536) : ((n : ℝ) : EReal) < Ideal.ofBits .f32 0x4E6E6B28#32 := by
  rw [big_bits, EReal.coe_lt_coe_iff]
  have : (n : ℝ) < 65536 := by exact_mod_cast h
  linarith

/-- A select by the mask of the device's own slot. -/
theorem own_ite {α : Type} (c : Dev nD) (u v : S32x1024.Idx → α) (s : Fin 32) (y : Fin 1024) :
    select (k0_pay1 (wd c)) u v (ix2 s y) = if s = c then u (ix2 s y) else v (ix2 s y) := by
  show Scalar.select (k0_pay1 (wd c) (ix2 s y)) _ _ = _
  rw [own_mask]
  exact if_congr ((ofBool_one _).trans (Fin.ext_iff (a := s) (b := c)).symm) rfl rfl

/-- Reading a table of two rows, -/
theorem two_zero (a b : FVec Ideal S1x1024 .f32) (y : Fin 1024) : twoRows a b (ix2 0 y) = a (ix2 0 y) := rfl
theorem two_one (a b : FVec Ideal S1x1024 .f32) (y : Fin 1024) : twoRows a b (ix2 1 y) = b (ix2 0 y) := rfl
/-- and the receive buffer once every table has arrived. -/
theorem gbuf_at (loc : Dev nD → Tab Ideal) (s : Fin 32) (k : Fin 2) (y : Fin 1024) : gbuf loc (ix3 s k y) = loc s (ix2 k y) := rfl

/-- Row 0 of slot `s` is the maximum of device `s`'s part, -/
theorem sent_max (s : Dev nD) (y : Fin 1024) : gbuf (locs X) (ix3 s 0 y) = accM (X s) 7 (ix1 y) := by
  rw [gbuf_at, locs, locTab, two_zero, cast_row]
/-- and row 1 the row attaining it. -/
theorem sent_row (s : Dev nD) (y : Fin 1024) : gbuf (locs X) (ix3 s 1 y) = accI (X s) (wd s) 7 (ix1 y) := by
  rw [gbuf_at, locs, locTab, two_one, cast_row]

section Pays

variable (g : (cc0_scratch2 : Ref sig .tc).ty.Contents (Elt Ideal)) (m n : FVec Ideal S1024 .f32)

/-- The maxima received, the device's own slot at −∞, -/
theorem pay2_at (c : Dev nD) (s : Fin 32) (y : Fin 1024) :
    k0_pay2 (wd c) (rcvM.view.readAt (Elt Ideal) rc0.toLoadRect g) (ix2 s y)
      = if s = c then (⊥ : EReal) else g (ix3 s 0 y) := by
  refine (own_ite c _ _ s y).trans (if_congr Iff.rfl bits_bot ?_)
  rw [slots_cast, rc0_read]

/-- and the row numbers, the device's own at the number that stands for no row. -/
theorem rows_at (c : Dev nD) (s : Fin 32) (y : Fin 1024) :
    select (k0_pay1 (wd c)) (broadcast S32x1024 (Scalar.ofBits (F := Ideal) .f32 0x4E6E6B28#32))
        (shapeCast S32x1024 (rcvM.view.readAt (Elt Ideal) rc1.toLoadRect g) shapeCasts_S32x1x1024_S32x1024) (ix2 s y)
      = if s = c then Ideal.ofBits .f32 0x4E6E6B28#32 else g (ix3 s 1 y) := by
  refine (own_ite c _ _ s y).trans (if_congr Iff.rfl rfl ?_)
  rw [slots_cast, rc1_read]

/-- The maximum over all devices at column `y`, -/
theorem pay3_at (c : Dev nD) (y : Fin 1024) :
    k0_pay3 (wd c) m (rcvM.view.readAt (Elt Ideal) rc0.toLoadRect g) (ix1 y)
      = max ((List.finRange 32).foldl (fun b s => max b (if s = c then (⊥ : EReal) else g (ix3 s 0 y))) ⊥) (m (ix1 y) : EReal) := by
  refine congrArg (fun t : EReal => max t (m (ix1 y) : EReal)) ((max_rows reduces_S32x1024_S1024 _ y).trans ?_)
  exact congrArg (fun v : Fin 32 → EReal => (List.finRange 32).foldl (fun b s => max b (v s)) ⊥) (funext fun s => pay2_at g c s y)

/-- and the least row number among those attaining it. -/
theorem pay5_at (c : Dev nD) (y : Fin 1024) (G : EReal)
    (hG : k0_pay3 (wd c) m (rcvM.view.readAt (Elt Ideal) rc0.toLoadRect g) (ix1 y) = G) :
    k0_pay5 (wd c) m n (rcvM.view.readAt (Elt Ideal) rc0.toLoadRect g) (rcvM.view.readAt (Elt Ideal) rc1.toLoadRect g) (ix2 0 y)
      = min ((List.finRange 32).foldl (fun b s => min b
            (if (if s = c then (⊥ : EReal) else g (ix3 s 0 y)) = G
              then (if s = c then Ideal.ofBits .f32 0x4E6E6B28#32 else g (ix3 s 1 y) : EReal)
              else Ideal.ofBits .f32 0x4E6E6B28#32)) ⊤)
          (if (m (ix1 y) : EReal) = G then (n (ix1 y) : EReal) else Ideal.ofBits .f32 0x4E6E6B28#32) := by
  unfold k0_pay5
  refine (cast_row _ y).trans ?_
  refine congrArg₂ (fun a b : EReal => min a b) ((min_rows reduces_S32x1024_S1024 _ y).trans ?_) ?_
  · refine congrArg (fun v : Fin 32 → EReal => (List.finRange 32).foldl (fun b s => min b (v s)) ⊤) (funext fun s => ?_)
    refine (select_eq _ _ _ _).trans ?_
    rw [rows_of, pay2_at, rows_at, hG]
    rfl
  · refine (select_eq _ _ _ _).trans ?_
    rw [hG]
    rfl

end Pays

/-- The same two for the tables that arrive. -/
theorem out_zero (c : Dev nD) (y : Fin 1024) : outAt X c (ix2 0 y)
    = max ((List.finRange 32).foldl (fun b s => max b (if s = c then (⊥ : EReal) else accM (X s) 7 (ix1 y))) ⊥)
        (accM (X c) 7 (ix1 y) : EReal) := by
  rw [outAt, outOf, two_zero, k0_pay4, cast_row, pay3_at]
  simp only [sent_max]
theorem out_one (c : Dev nD) (y : Fin 1024) : outAt X c (ix2 1 y)
    = min ((List.finRange 32).foldl (fun b s => min b
          (if (if s = c then (⊥ : EReal) else accM (X s) 7 (ix1 y)) = outAt X c (ix2 0 y)
            then (if s = c then Ideal.ofBits .f32 0x4E6E6B28#32 else accI (X s) (wd s) 7 (ix1 y) : EReal)
            else Ideal.ofBits .f32 0x4E6E6B28#32)) ⊤)
        (if (accM (X c) 7 (ix1 y) : EReal) = outAt X c (ix2 0 y) then (accI (X c) (wd c) 7 (ix1 y) : EReal)
          else Ideal.ofBits .f32 0x4E6E6B28#32) := by
  have e : k0_pay3 (wd c) (accM (X c) 7) (rcvM.view.readAt (Elt Ideal) rc0.toLoadRect (gbuf (locs X))) (ix1 y) = outAt X c (ix2 0 y) := by
    rw [outAt, outOf, two_zero, k0_pay4, cast_row]
  have h := pay5_at (gbuf (locs X)) (accM (X c) 7) (accI (X c) (wd c) 7) c y _ e
  simp only [sent_max, sent_row] at h
  generalize outAt X c (ix2 0 y) = G at h ⊢
  rw [outAt, outOf, two_one]
  exact h

/-- From the two rows of the result to the maximum over all parts and the first row attaining it. -/
theorem gather_top {f : ℕ → EReal} {B : EReal} (hB : ∀ n : ℕ, n < 65536 → ((n : ℝ) : EReal) < B) (M : Fin 32 → EReal) (r : Fin 32 → ℕ)
    (h : ∀ s, Top f (2048 * s.val) (2048 * s.val + 2048) (M s) (r s)) (c : Fin 32) (G J : EReal)
    (hG : G = max ((List.finRange 32).foldl (fun b s => max b (if s = c then (⊥ : EReal) else M s)) ⊥) (M c))
    (hJ : J = min ((List.finRange 32).foldl (fun b s => min b
          (if (if s = c then (⊥ : EReal) else M s) = G then (if s = c then B else ((r s : ℝ) : EReal)) else B)) ⊤)
        (if M c = G then ((r c : ℝ) : EReal) else B)) :
    ∃ q : ℕ, Top f 0 65536 G q ∧ J = ((q : ℝ) : EReal) := by
  obtain ⟨a1, s1, e1⟩ := foldl_max (n := 32) (by norm_num) fun s => if s = c then (⊥ : EReal) else M s
  obtain ⟨a2, e2⟩ := foldl_min (n := 32) fun s =>
    if (if s = c then (⊥ : EReal) else M s) = G then (if s = c then B else ((r s : ℝ) : EReal)) else B
  have own : M c ≤ G := (le_max_right _ _).trans_eq hG.symm
  refine Top.gather h hB (fun s => ?_) ?_ (fun s hs => ?_) fun hlt => ?_
  · by_cases hs : s = c
    · rw [hs]; exact own
    · have := a1 s
      rw [if_neg hs] at this
      exact this.trans ((le_max_left _ _).trans_eq hG.symm)
  · rcases max_choice ((List.finRange 32).foldl (fun b s => max b (if s = c then (⊥ : EReal) else M s)) ⊥) (M c) with e | e
    · rw [e, ← e1] at hG
      by_cases hs : s1 = c
      · rw [if_pos hs] at hG
        rw [hG] at own ⊢
        exact ⟨c, le_bot_iff.mp own⟩
      · rw [if_neg hs] at hG
        exact ⟨s1, hG.symm⟩
    · exact ⟨c, (hG.trans e).symm⟩
  · by_cases hc : s = c
    · subst hc
      rw [hJ, if_pos hs]
      exact min_le_right _ _
    · have := a2 s
      rw [if_neg hc, if_neg hc, if_pos hs] at this
      rw [hJ]
      exact (min_le_left _ _).trans this
  · rcases min_choice ((List.finRange 32).foldl (fun b s => min b
          (if (if s = c then (⊥ : EReal) else M s) = G then (if s = c then B else ((r s : ℝ) : EReal)) else B)) ⊤)
        (if M c = G then ((r c : ℝ) : EReal) else B) with e | e
    · rw [e] at hJ
      rcases e2 with e2 | ⟨s2, e2⟩
      · rw [hJ, e2] at hlt
        exact absurd hlt not_top_lt
      · rw [e2] at hJ
        by_cases hs : s2 = c
        · rw [if_pos hs, if_pos hs, ite_self] at hJ
          exact absurd hJ hlt.ne
        · rw [if_neg hs, if_neg hs] at hJ
          by_cases hm : M s2 = G
          · rw [if_pos hm] at hJ
            exact ⟨s2, hm, hJ⟩
          · rw [if_neg hm] at hJ
            exact absurd hJ hlt.ne
    · rw [e] at hJ
      by_cases hm : M c = G
      · rw [if_pos hm] at hJ
        exact ⟨c, hm, hJ⟩
      · rw [if_neg hm] at hJ
        exact absurd hJ hlt.ne

/-- Every column of the result: the maximum of the column of the whole array, and the first row attaining it. -/
theorem out_top (hX : ∀ c : Dev nD, Owns A c.val (X c)) (c : Dev nD) (y : Fin 1024) :
    ∃ q : ℕ, Top (col A y) 0 65536 (outAt X c (ix2 0 y)) q ∧ outAt X c (ix2 1 y) = ((q : ℝ) : EReal) := by
  have h : ∀ s : Fin 32, ∃ r : ℕ, Top (col A y) (2048 * s.val) (2048 * s.val + 2048) (accM (X s) 7 (ix1 y)) r
      ∧ accI (X s) (wd s) 7 (ix1 y) = ((r : ℝ) : EReal) := fun s => acc_top (hX s) y 7 le_rfl
  choose r hr hi using h
  have e1 := out_one (X := X) c y
  simp only [hi] at e1
  exact gather_top row_lt_big _ r hr c _ _ (out_zero c y) e1

end Kernel

/-! ## The reference's result -/

section Reference

open Cert.ReferenceIdeal Cert.ReferenceIdeal.Gen Cert.Reference

theorem whole_reduces : (⟨2, ![65536, 1024]⟩ : Shape).Reduces [0] ⟨1, ![1024]⟩ := by decide

/-- The order in which the reference's arg-max takes the least: the greater value first, then the lesser row. -/
def rank (p : EReal × BitVec 32) : ERealᵒᵈ ×ₗ ℤ := toLex (OrderDual.toDual p.1, p.2.toInt)

theorem rank_le (p q : EReal × BitVec 32) : rank p ≤ rank q ↔ q.1 < p.1 ∨ p.1 = q.1 ∧ p.2.toInt ≤ q.2.toInt :=
  Prod.Lex.toLex_le_toLex

/-- Its step keeps the first of the two pairs if that is before the second in this order. -/
theorem step_eq (a b : EReal × BitVec 32) : (reducer_argmax_f32_i32 (F := Ideal) a b : EReal × BitVec 32)
    = if b.1 < a.1 ∨ a.1 = b.1 ∧ a.2.toInt < b.2.toInt then a else b := by
  have e : (reducer_argmax_f32_i32 (F := Ideal) a b : EReal × BitVec 32)
      = (Scalar.select (IntOp.ori (BitVec.ofBool (decide (b.1 < a.1))) (BitVec.ofBool (decide (a.1 ≠ a.1)))) a.1 b.1,
        Scalar.select (IntOp.ori (IntOp.ori (BitVec.ofBool (decide (b.1 < a.1))) (BitVec.ofBool (decide (a.1 ≠ a.1))))
          (IntOp.andi (BitVec.ofBool (decide (a.1 = b.1))) (BitVec.ofBool (a.2.slt b.2)))) a.2 b.2) := rfl
  have hs : a.2.slt b.2 = decide (a.2.toInt < b.2.toInt) := rfl
  rw [e, hs]
  by_cases h1 : b.1 < a.1 <;> by_cases h2 : a.1 = b.1 <;> by_cases h3 : a.2.toInt < b.2.toInt <;>
    simp [h1, h2, h3, IntOp.ori, IntOp.andi, Scalar.select, Prod.ext_iff]

theorem step_left (a b : EReal × BitVec 32) : rank (reducer_argmax_f32_i32 (F := Ideal) a b) ≤ rank a := by
  rw [step_eq]
  by_cases h : b.1 < a.1 ∨ a.1 = b.1 ∧ a.2.toInt < b.2.toInt
  · rw [if_pos h]
  · rw [if_neg h, rank_le]
    rw [not_or, not_lt] at h
    rcases h.1.lt_or_eq with e | e
    · exact .inl e
    · exact .inr ⟨e.symm, not_lt.mp fun l => h.2 ⟨e, l⟩⟩
theorem step_right (a b : EReal × BitVec 32) : rank (reducer_argmax_f32_i32 (F := Ideal) a b) ≤ rank b := by
  rw [step_eq]
  by_cases h : b.1 < a.1 ∨ a.1 = b.1 ∧ a.2.toInt < b.2.toInt
  · rw [if_pos h, rank_le]
    exact h.imp_right fun l => ⟨l.1, l.2.le⟩
  · rw [if_neg h]
theorem step_one (a b : EReal × BitVec 32) :
    (reducer_argmax_f32_i32 (F := Ideal) a b : EReal × BitVec 32) = a ∨ (reducer_argmax_f32_i32 (F := Ideal) a b : EReal × BitVec 32) = b := by
  rw [step_eq]
  exact ite_eq_or_eq _ _ _

/-- The pairs of column `y`, top to bottom, -/
def pairs (A : Whole.Idx → EReal) (y : Fin 1024) (i : Fin 65536) : EReal × BitVec 32 := (A (ix2 i y), BitVec.ofNat 32 i.val)

/-- and the reference's arg-max as the fold over them. -/
theorem best_fold (y : Fin 1024) : (best (F := Ideal) A (ix1 y) : EReal × BitVec 32)
    = (List.finRange 65536).foldl (fun b i => reducer_argmax_f32_i32 (F := Ideal) b (pairs A y i)) ((⊥ : EReal), 0#32) := by
  unfold best
  rw [Ideal.argReduce_eq_reduce2]
  refine (fold_rows whole_reduces (reducer_argmax_f32_i32 (F := Ideal)) (Ideal.ofBits .f32 0xFF800000#32, 0#32)
    (fun i => (A i, iotaInDim S65536x1024 32 0 i)) y).trans ?_
  rw [bits_bot]
  rfl

theorem col_row (y : Fin 1024) (i : Fin 65536) : col A y i.val = A (ix2 i y) := by
  rw [col, Fin.ofNat_eq_cast, Fin.cast_val_eq_self]

/-- It finds the maximum of the column and the first row attaining it. -/
theorem best_top (y : Fin 1024) : ∃ q : ℕ, Top (col A y) 0 65536 (best (F := Ideal) A (ix1 y)).1 q
    ∧ (best (F := Ideal) A (ix1 y)).2.toInt = q := by
  obtain ⟨le, eq⟩ := foldl_least rank (reducer_argmax_f32_i32 (F := Ideal)) step_left step_right step_one (pairs A y) ((⊥ : EReal), 0#32)
  rw [← best_fold] at le eq
  generalize (best (F := Ideal) A (ix1 y) : EReal × BitVec 32) = P at le eq ⊢
  have le' : ∀ i : Fin 65536, A (ix2 i y) < P.1 ∨ P.1 = A (ix2 i y) ∧ P.2.toInt ≤ i.val := fun i => by
    have h := (rank_le _ _).mp (le i)
    have hi := i.isLt
    rw [show (pairs A y i).2.toInt = i.val from small_word (by omega)] at h
    exact h
  have top : ∀ i, 0 ≤ i → i < 65536 → col A y i ≤ P.1 := fun i _ hi => by
    rw [col_row y ⟨i, hi⟩]
    exact (le' ⟨i, hi⟩).elim le_of_lt fun h => h.1.ge
  rcases eq with e | ⟨q, e⟩
  · refine ⟨0, ⟨le_rfl, by norm_num, ?_, top, fun i _ hi => absurd hi (Nat.not_lt_zero i)⟩, by rw [e]; rfl⟩
    refine le_antisymm (top 0 le_rfl (by norm_num)) ?_
    rw [e]
    exact bot_le
  · have hq := q.isLt
    have e2 : P.2.toInt = q.val := by rw [e]; exact small_word (by omega)
    refine ⟨q.val, ⟨Nat.zero_le _, hq, by rw [col_row, e]; rfl, top, fun i _ hi => ?_⟩, e2⟩
    have h := le' ⟨i, hi.trans hq⟩
    rw [e2] at h
    rw [col_row y ⟨i, hi.trans hq⟩]
    refine h.resolve_right fun h => absurd h.2 ?_
    show ¬ ((q.val : ℤ) ≤ (i : ℤ))
    omega

/-- The reference's maximum is that of its arg-max. -/
theorem tops_eq (y : Fin 1024) : (tops (F := Ideal) A (ix1 y) : EReal) = (best (F := Ideal) A (ix1 y)).1 := by
  have e : (tops (F := Ideal) A (ix1 y) : EReal) = (List.finRange 65536).foldl (fun b i => max b (A (ix2 i y))) ⊥ := by
    refine (fold_rows whole_reduces (fun a b : EReal => max a b) (Ideal.ofBits .f32 0xFF800000#32) A y).trans ?_
    rw [bits_bot]
  obtain ⟨q, h, -⟩ := best_top (A := A) y
  obtain ⟨le, i, at_i⟩ := foldl_max (n := 65536) (by norm_num) fun i => A (ix2 i y)
  rw [← e] at le at_i
  refine le_antisymm ?_ ?_
  · rw [← at_i, ← col_row (A := A)]
    exact h.le _ (Nat.zero_le _) i.isLt
  · rw [← h.at_r, col_row y ⟨q, h.lt_hi⟩]
    exact le _

/-- The two rows of the reference's result. -/
theorem under_zero (a b : S1x1024.Idx → EReal) (y : Fin 1024) : under (F := Ideal) a b (ix2 0 y) = a (ix2 0 y) := by
  refine concatenate_apply_piece (t := S2x1024) 0 [⟨S1x1024, a⟩, ⟨S1x1024, b⟩] _ (ix2 0 y) 0 (by simp) S1x1024 a rfl rfl 0 rfl (ix2 0 y) (fun k hk => ?_) rfl
  match k with
  | ⟨0, _⟩ => exact absurd rfl hk
  | ⟨1, _⟩ => rfl
theorem under_one (a b : S1x1024.Idx → EReal) (y : Fin 1024) : under (F := Ideal) a b (ix2 1 y) = b (ix2 0 y) := by
  refine concatenate_apply_piece (t := S2x1024) 0 [⟨S1x1024, a⟩, ⟨S1x1024, b⟩] _ (ix2 1 y) 1 (by simp) S1x1024 b rfl rfl 1 rfl (ix2 0 y) (fun k hk => ?_) rfl
  match k with
  | ⟨0, _⟩ => exact absurd rfl hk
  | ⟨1, _⟩ => rfl
theorem as_row (u : S1024.Idx → EReal) (y : Fin 1024) :
    broadcastInDim S1x1024 ![1] bcast_S1024_S1x1024_1 u (ix2 0 y) = u (ix1 y) := by
  refine broadcastInDim_apply _ _ _ _ (ix1 y) fun k => ?_
  match k with
  | ⟨0, _⟩ => rfl

theorem ref_top (y : Fin 1024) : ∃ q : ℕ, Top (col A y) 0 65536 (refOut (F := Ideal) A (ix2 0 y)) q
    ∧ refOut (F := Ideal) A (ix2 1 y) = ((q : ℝ) : EReal) := by
  obtain ⟨q, h, hq⟩ := best_top (A := A) y
  refine ⟨q, ?_, ?_⟩
  · rw [refOut, under_zero, as_row]
    rw [← tops_eq] at h
    exact h
  · rw [refOut, under_one, as_row]
    show (((best (F := Ideal) A (ix1 y)).2.toInt : ℝ) : EReal) = _
    rw [hq, Int.cast_natCast]

end Reference

/-! ## They are equal -/

/-- Device `c`'s part of the array. -/
theorem owns_block (A : Whole.Idx → EReal) (c : Fin 32) : Owns A c.val (Layout.block ⟨2, ![2048, 1024]⟩ ⟨2, ![65536, 1024]⟩ 0 32 c A) := by
  intro i y
  refine congrArg A (funext fun k => Fin.ext ?_)
  match k with
  | ⟨0, _⟩ =>
    have h1 := c.isLt
    have h2 := i.isLt
    show c.val * 2048 + i.val = (2048 * c.val + i.val) % 65536
    rw [Nat.mod_eq_of_lt (by omega), Nat.mul_comm]
  | ⟨1, _⟩ => rfl

theorem out_eq_ref (X : Dev Cert.KernelIdeal.nD → Arg Ideal) (A : Whole.Idx → EReal)
    (hX : ∀ c : Dev Cert.KernelIdeal.nD, Owns A c.val (X c)) (c : Dev Cert.KernelIdeal.nD) :
    outAt X c = Cert.Reference.refOut (F := Ideal) A := by
  funext i
  obtain ⟨k, y, rfl⟩ := tab_ix i
  obtain ⟨q, h, hq⟩ := out_top hX c y
  obtain ⟨q', h', hq'⟩ := ref_top (A := A) y
  obtain ⟨e, e'⟩ := h.unique h'
  match k with
  | ⟨0, _⟩ => exact e
  | ⟨1, _⟩ => exact hq.trans ((congrArg (fun n : ℕ => ((n : ℝ) : EReal)) e').trans hq'.symm)

end Cert.Exchange

end
-- ==== Proof.lean ====
/-
# The certificate

The kernel's run is proved once, for any float values, and gives the frame of the kernel and of its idealized
program. The reference's run gives its frame. At the extended reals the two results are one table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Reference
public import proofs.«01_k».proof.Proof.Agree

@[expose] public section

noncomputable section

namespace Cert.Proof

open Idealize.ShloMosaic Idealize.SL.Sem Cert.Exchange
open Idealize.ShloMosaic.ValueIdx (ix2)

/-- A run leaves the rows as they were and every semaphore at zero, for any float values. -/
theorem run_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).2, h.2⟩) (run_main m ρ)

set_option maxRecDepth 100000 in
/-- The kernel and its idealized program have one text: their bodies agree at every label, -/
theorem bodies_eq {F : FTy → Type} [FloatOps F] : Cert.Kernel.defs₀ (F := F) = Cert.KernelIdeal.defs₀ := by
  refine congrArg Defs.onTc (funext fun ℓ => funext fun a => ?_)
  match ℓ, a with
  | 0, (t, s) => rfl

/-- and so do their definitions. -/
theorem defs_eq {F : FTy → Type} [FloatOps F] : Cert.Kernel.defs (F := F) = Cert.KernelIdeal.defs :=
  congrArg (Pipeline.defs Cert.Kernel.pcfgs) bodies_eq

/-- So the frame holds at the machine's floats -/
theorem frame_kernel : Cert.quiescent_Kernel := fun m ρ _ => by
  rw [defs_eq]
  exact run_frame (F := Bits) m ρ

/-- and at the extended reals. -/
theorem frame_ideal : Cert.quiescent_KernelIdeal := fun m ρ _ => run_frame (F := Ideal) m ρ

/-- The kernel's result on every device is the reference's. -/
theorem agrees : Cert.algebraic_KernelIdeal_ReferenceIdeal := fun m ρ m' ρ' _ hb =>
  ⟨Cert.Reference.refOut (F := Ideal) (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c).1.trans (out_eq_ref (X m) _ (fun s i y => (congrFun (hb s) (ix2 i y)).trans (owns_block _ s i y)) c), (h.1 c).2⟩)
      (run_main (F := Ideal) m ρ),
    (θ_run Cert.ReferenceIdeal.defs _ _).mono (fun _ h => h 0) (Cert.Reference.run_ref m' ρ')⟩

theorem claim : Cert.Claim :=
  ⟨Cert.Kernel.Gen.facts, Cert.KernelIdeal.Gen.facts, Cert.ReferenceIdeal.Gen.facts,
    frame_kernel, frame_ideal, Cert.Reference.frame_ref, trivial, agrees⟩

end Cert.Proof

end
